-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![2048, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S2048x128 : Shape := ⟨2, ![2048, 128]⟩
abbrev S15 : Shape := ⟨1, ![15]⟩
abbrev S16 : Shape := ⟨1, ![16]⟩
abbrev S_ : Shape := ⟨0, ![]⟩
abbrev S1 : Shape := ⟨1, ![1]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S2048x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v71 : BitVec 32 := Scalar.muli v2 c128_i32
  let v72 : Index := Scalar.indexCast v71
  let c0_66 : Index := 0#32
  ![v72.toNat, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_69 : BitVec 32 := 128#32
  let v78 : BitVec 32 := Scalar.muli v2 c128_i32_69
  let c0_i32_73 : BitVec 32 := 0#32
  ![v78.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v76 : BitVec 32 := Scalar.addi v2 c1_i32_67
  let c16_i32_68 : BitVec 32 := 16#32
  let v77 : BitVec 32 := Scalar.remsi v76 c16_i32_68
  let c1_i32_71 : BitVec 32 := 1#32
  let v79 : BitVec 32 := Scalar.muli v77 c1_i32_71
  let v80 : BitVec 32 := Scalar.addi c0_i32_72 v79
  v80.toNat
def k0_dev17 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v86 : BitVec 32 := Scalar.addi v2 c2_i32_74
  let c16_i32_75 : BitVec 32 := 16#32
  let v87 : BitVec 32 := Scalar.remsi v86 c16_i32_75
  let c1_i32_78 : BitVec 32 := 1#32
  let v89 : BitVec 32 := Scalar.muli v87 c1_i32_78
  let v90 : BitVec 32 := Scalar.addi c0_i32_79 v89
  v90.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_81 : BitVec 32 := 3#32
  let v96 : BitVec 32 := Scalar.addi v2 c3_i32_81
  let c16_i32_82 : BitVec 32 := 16#32
  let v97 : BitVec 32 := Scalar.remsi v96 c16_i32_82
  let c1_i32_85 : BitVec 32 := 1#32
  let v99 : BitVec 32 := Scalar.muli v97 c1_i32_85
  let v100 : BitVec 32 := Scalar.addi c0_i32_86 v99
  v100.toNat
def k0_dev19 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_88 : BitVec 32 := 4#32
  let v106 : BitVec 32 := Scalar.addi v2 c4_i32_88
  let c16_i32_89 : BitVec 32 := 16#32
  let v107 : BitVec 32 := Scalar.remsi v106 c16_i32_89
  let c1_i32_92 : BitVec 32 := 1#32
  let v109 : BitVec 32 := Scalar.muli v107 c1_i32_92
  let v110 : BitVec 32 := Scalar.addi c0_i32_93 v109
  v110.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_95 : BitVec 32 := 5#32
  let v116 : BitVec 32 := Scalar.addi v2 c5_i32_95
  let c16_i32_96 : BitVec 32 := 16#32
  let v117 : BitVec 32 := Scalar.remsi v116 c16_i32_96
  let c1_i32_99 : BitVec 32 := 1#32
  let v119 : BitVec 32 := Scalar.muli v117 c1_i32_99
  let v120 : BitVec 32 := Scalar.addi c0_i32_100 v119
  v120.toNat
def k0_dev21 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_102 : BitVec 32 := 6#32
  let v126 : BitVec 32 := Scalar.addi v2 c6_i32_102
  let c16_i32_103 : BitVec 32 := 16#32
  let v127 : BitVec 32 := Scalar.remsi v126 c16_i32_103
  let c1_i32_106 : BitVec 32 := 1#32
  let v129 : BitVec 32 := Scalar.muli v127 c1_i32_106
  let v130 : BitVec 32 := Scalar.addi c0_i32_107 v129
  v130.toNat
def k0_dev22 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_109 : BitVec 32 := 7#32
  let v136 : BitVec 32 := Scalar.addi v2 c7_i32_109
  let c16_i32_110 : BitVec 32 := 16#32
  let v137 : BitVec 32 := Scalar.remsi v136 c16_i32_110
  let c1_i32_113 : BitVec 32 := 1#32
  let v139 : BitVec 32 := Scalar.muli v137 c1_i32_113
  let v140 : BitVec 32 := Scalar.addi c0_i32_114 v139
  v140.toNat
def k0_dev23 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_116 : BitVec 32 := 8#32
  let v146 : BitVec 32 := Scalar.addi v2 c8_i32_116
  let c16_i32_117 : BitVec 32 := 16#32
  let v147 : BitVec 32 := Scalar.remsi v146 c16_i32_117
  let c1_i32_120 : BitVec 32 := 1#32
  let v149 : BitVec 32 := Scalar.muli v147 c1_i32_120
  let v150 : BitVec 32 := Scalar.addi c0_i32_121 v149
  v150.toNat
def k0_dev24 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_123 : BitVec 32 := 9#32
  let v156 : BitVec 32 := Scalar.addi v2 c9_i32_123
  let c16_i32_124 : BitVec 32 := 16#32
  let v157 : BitVec 32 := Scalar.remsi v156 c16_i32_124
  let c1_i32_127 : BitVec 32 := 1#32
  let v159 : BitVec 32 := Scalar.muli v157 c1_i32_127
  let v160 : BitVec 32 := Scalar.addi c0_i32_128 v159
  v160.toNat
def k0_dev25 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_130 : BitVec 32 := 10#32
  let v166 : BitVec 32 := Scalar.addi v2 c10_i32_130
  let c16_i32_131 : BitVec 32 := 16#32
  let v167 : BitVec 32 := Scalar.remsi v166 c16_i32_131
  let c1_i32_134 : BitVec 32 := 1#32
  let v169 : BitVec 32 := Scalar.muli v167 c1_i32_134
  let v170 : BitVec 32 := Scalar.addi c0_i32_135 v169
  v170.toNat
def k0_dev26 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_137 : BitVec 32 := 11#32
  let v176 : BitVec 32 := Scalar.addi v2 c11_i32_137
  let c16_i32_138 : BitVec 32 := 16#32
  let v177 : BitVec 32 := Scalar.remsi v176 c16_i32_138
  let c1_i32_141 : BitVec 32 := 1#32
  let v179 : BitVec 32 := Scalar.muli v177 c1_i32_141
  let v180 : BitVec 32 := Scalar.addi c0_i32_142 v179
  v180.toNat
def k0_dev27 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_144 : BitVec 32 := 12#32
  let v186 : BitVec 32 := Scalar.addi v2 c12_i32_144
  let c16_i32_145 : BitVec 32 := 16#32
  let v187 : BitVec 32 := Scalar.remsi v186 c16_i32_145
  let c1_i32_148 : BitVec 32 := 1#32
  let v189 : BitVec 32 := Scalar.muli v187 c1_i32_148
  let v190 : BitVec 32 := Scalar.addi c0_i32_149 v189
  v190.toNat
def k0_dev28 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_151 : BitVec 32 := 13#32
  let v196 : BitVec 32 := Scalar.addi v2 c13_i32_151
  let c16_i32_152 : BitVec 32 := 16#32
  let v197 : BitVec 32 := Scalar.remsi v196 c16_i32_152
  let c1_i32_155 : BitVec 32 := 1#32
  let v199 : BitVec 32 := Scalar.muli v197 c1_i32_155
  let v200 : BitVec 32 := Scalar.addi c0_i32_156 v199
  v200.toNat
def k0_dev29 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_158 : BitVec 32 := 14#32
  let v206 : BitVec 32 := Scalar.addi v2 c14_i32_158
  let c16_i32_159 : BitVec 32 := 16#32
  let v207 : BitVec 32 := Scalar.remsi v206 c16_i32_159
  let c1_i32_162 : BitVec 32 := 1#32
  let v209 : BitVec 32 := Scalar.muli v207 c1_i32_162
  let v210 : BitVec 32 := Scalar.addi c0_i32_163 v209
  v210.toNat
def k0_dev30 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_165 : BitVec 32 := 15#32
  let v216 : BitVec 32 := Scalar.addi v2 c15_i32_165
  let c16_i32_166 : BitVec 32 := 16#32
  let v217 : BitVec 32 := Scalar.remsi v216 c16_i32_166
  let c1_i32_169 : BitVec 32 := 1#32
  let v219 : BitVec 32 := Scalar.muli v217 c1_i32_169
  let v220 : BitVec 32 := Scalar.addi c0_i32_170 v219
  v220.toNat
def k0_off4 (d0 : Dev nD) (c0_i32_176 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v232 : BitVec 32 := Scalar.addi v2 c0_i32_176
  let c16_i32_177 : BitVec 32 := 16#32
  let v233 : BitVec 32 := Scalar.remsi v232 c16_i32_177
  let c128_i32_178 : BitVec 32 := 128#32
  let v234 : BitVec 32 := Scalar.muli v233 c128_i32_178
  let v235 : Index := Scalar.indexCast v234
  let c0_179 : Index := 0#32
  ![v235.toNat, 0]
def k0_off5 (d0 : Dev nD) (c1_i32_182 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v242 : BitVec 32 := Scalar.addi v2 c1_i32_182
  let c16_i32_183 : BitVec 32 := 16#32
  let v243 : BitVec 32 := Scalar.remsi v242 c16_i32_183
  ![v243.toNat]
def k0_off6 (d0 : Dev nD) (c1_i32_182 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v242 : BitVec 32 := Scalar.addi v2 c1_i32_182
  let c16_i32_183 : BitVec 32 := 16#32
  let v243 : BitVec 32 := Scalar.remsi v242 c16_i32_183
  let c128_i32_184 : BitVec 32 := 128#32
  let v244 : BitVec 32 := Scalar.muli v243 c128_i32_184
  let c0_i32_188 : BitVec 32 := 0#32
  ![v244.toNat, 0]
def k0_dev31 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_182 : BitVec 32 := 1#32
  let v242 : BitVec 32 := Scalar.addi v2 c1_i32_182
  let c16_i32_183 : BitVec 32 := 16#32
  let v243 : BitVec 32 := Scalar.remsi v242 c16_i32_183
  let c1_i32_199 : BitVec 32 := 1#32
  let v266 : BitVec 32 := Scalar.muli v243 c1_i32_199
  let v267 : BitVec 32 := Scalar.addi c0_i32_200 v266
  v267.toNat
def k0_dev32 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_203 : BitVec 32 := 2#32
  let v274 : BitVec 32 := Scalar.addi v2 c2_i32_203
  let c16_i32_204 : BitVec 32 := 16#32
  let v275 : BitVec 32 := Scalar.remsi v274 c16_i32_204
  let c1_i32_220 : BitVec 32 := 1#32
  let v298 : BitVec 32 := Scalar.muli v275 c1_i32_220
  let v299 : BitVec 32 := Scalar.addi c0_i32_221 v298
  v299.toNat
def k0_dev33 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v306 : BitVec 32 := Scalar.addi v2 c3_i32_224
  let c16_i32_225 : BitVec 32 := 16#32
  let v307 : BitVec 32 := Scalar.remsi v306 c16_i32_225
  let c1_i32_241 : BitVec 32 := 1#32
  let v330 : BitVec 32 := Scalar.muli v307 c1_i32_241
  let v331 : BitVec 32 := Scalar.addi c0_i32_242 v330
  v331.toNat
def k0_dev34 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_245 : BitVec 32 := 4#32
  let v338 : BitVec 32 := Scalar.addi v2 c4_i32_245
  let c16_i32_246 : BitVec 32 := 16#32
  let v339 : BitVec 32 := Scalar.remsi v338 c16_i32_246
  let c1_i32_262 : BitVec 32 := 1#32
  let v362 : BitVec 32 := Scalar.muli v339 c1_i32_262
  let v363 : BitVec 32 := Scalar.addi c0_i32_263 v362
  v363.toNat
def k0_dev35 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_266 : BitVec 32 := 5#32
  let v370 : BitVec 32 := Scalar.addi v2 c5_i32_266
  let c16_i32_267 : BitVec 32 := 16#32
  let v371 : BitVec 32 := Scalar.remsi v370 c16_i32_267
  let c1_i32_283 : BitVec 32 := 1#32
  let v394 : BitVec 32 := Scalar.muli v371 c1_i32_283
  let v395 : BitVec 32 := Scalar.addi c0_i32_284 v394
  v395.toNat
def k0_dev36 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_287 : BitVec 32 := 6#32
  let v402 : BitVec 32 := Scalar.addi v2 c6_i32_287
  let c16_i32_288 : BitVec 32 := 16#32
  let v403 : BitVec 32 := Scalar.remsi v402 c16_i32_288
  let c1_i32_304 : BitVec 32 := 1#32
  let v426 : BitVec 32 := Scalar.muli v403 c1_i32_304
  let v427 : BitVec 32 := Scalar.addi c0_i32_305 v426
  v427.toNat
def k0_dev37 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_308 : BitVec 32 := 7#32
  let v434 : BitVec 32 := Scalar.addi v2 c7_i32_308
  let c16_i32_309 : BitVec 32 := 16#32
  let v435 : BitVec 32 := Scalar.remsi v434 c16_i32_309
  let c1_i32_325 : BitVec 32 := 1#32
  let v458 : BitVec 32 := Scalar.muli v435 c1_i32_325
  let v459 : BitVec 32 := Scalar.addi c0_i32_326 v458
  v459.toNat
def k0_dev38 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_329 : BitVec 32 := 8#32
  let v466 : BitVec 32 := Scalar.addi v2 c8_i32_329
  let c16_i32_330 : BitVec 32 := 16#32
  let v467 : BitVec 32 := Scalar.remsi v466 c16_i32_330
  let c1_i32_346 : BitVec 32 := 1#32
  let v490 : BitVec 32 := Scalar.muli v467 c1_i32_346
  let v491 : BitVec 32 := Scalar.addi c0_i32_347 v490
  v491.toNat
def k0_dev39 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_350 : BitVec 32 := 9#32
  let v498 : BitVec 32 := Scalar.addi v2 c9_i32_350
  let c16_i32_351 : BitVec 32 := 16#32
  let v499 : BitVec 32 := Scalar.remsi v498 c16_i32_351
  let c1_i32_367 : BitVec 32 := 1#32
  let v522 : BitVec 32 := Scalar.muli v499 c1_i32_367
  let v523 : BitVec 32 := Scalar.addi c0_i32_368 v522
  v523.toNat
def k0_dev40 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_371 : BitVec 32 := 10#32
  let v530 : BitVec 32 := Scalar.addi v2 c10_i32_371
  let c16_i32_372 : BitVec 32 := 16#32
  let v531 : BitVec 32 := Scalar.remsi v530 c16_i32_372
  let c1_i32_388 : BitVec 32 := 1#32
  let v554 : BitVec 32 := Scalar.muli v531 c1_i32_388
  let v555 : BitVec 32 := Scalar.addi c0_i32_389 v554
  v555.toNat
def k0_dev41 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_392 : BitVec 32 := 11#32
  let v562 : BitVec 32 := Scalar.addi v2 c11_i32_392
  let c16_i32_393 : BitVec 32 := 16#32
  let v563 : BitVec 32 := Scalar.remsi v562 c16_i32_393
  let c1_i32_409 : BitVec 32 := 1#32
  let v586 : BitVec 32 := Scalar.muli v563 c1_i32_409
  let v587 : BitVec 32 := Scalar.addi c0_i32_410 v586
  v587.toNat
def k0_dev42 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_413 : BitVec 32 := 12#32
  let v594 : BitVec 32 := Scalar.addi v2 c12_i32_413
  let c16_i32_414 : BitVec 32 := 16#32
  let v595 : BitVec 32 := Scalar.remsi v594 c16_i32_414
  let c1_i32_430 : BitVec 32 := 1#32
  let v618 : BitVec 32 := Scalar.muli v595 c1_i32_430
  let v619 : BitVec 32 := Scalar.addi c0_i32_431 v618
  v619.toNat
def k0_dev43 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_434 : BitVec 32 := 13#32
  let v626 : BitVec 32 := Scalar.addi v2 c13_i32_434
  let c16_i32_435 : BitVec 32 := 16#32
  let v627 : BitVec 32 := Scalar.remsi v626 c16_i32_435
  let c1_i32_451 : BitVec 32 := 1#32
  let v650 : BitVec 32 := Scalar.muli v627 c1_i32_451
  let v651 : BitVec 32 := Scalar.addi c0_i32_452 v650
  v651.toNat
def k0_dev44 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_455 : BitVec 32 := 14#32
  let v658 : BitVec 32 := Scalar.addi v2 c14_i32_455
  let c16_i32_456 : BitVec 32 := 16#32
  let v659 : BitVec 32 := Scalar.remsi v658 c16_i32_456
  let c1_i32_472 : BitVec 32 := 1#32
  let v682 : BitVec 32 := Scalar.muli v659 c1_i32_472
  let v683 : BitVec 32 := Scalar.addi c0_i32_473 v682
  v683.toNat
def k0_dev45 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_476 : BitVec 32 := 15#32
  let v690 : BitVec 32 := Scalar.addi v2 c15_i32_476
  let c16_i32_477 : BitVec 32 := 16#32
  let v691 : BitVec 32 := Scalar.remsi v690 c16_i32_477
  let c1_i32_493 : BitVec 32 := 1#32
  let v714 : BitVec 32 := Scalar.muli v691 c1_i32_493
  let v715 : BitVec 32 := Scalar.addi c0_i32_494 v714
  v715.toNat
def k0_dev46 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_682 : BitVec 32 := 1#32
  let v973 : BitVec 32 := Scalar.addi v2 c1_i32_682
  let c16_i32_683 : BitVec 32 := 16#32
  let v974 : BitVec 32 := Scalar.remsi v973 c16_i32_683
  let c1_i32_687 : BitVec 32 := 1#32
  let v977 : BitVec 32 := Scalar.muli v974 c1_i32_687
  let v978 : BitVec 32 := Scalar.addi c0_i32_688 v977
  v978.toNat
def k0_dev47 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_691 : BitVec 32 := 2#32
  let v985 : BitVec 32 := Scalar.addi v2 c2_i32_691
  let c16_i32_692 : BitVec 32 := 16#32
  let v986 : BitVec 32 := Scalar.remsi v985 c16_i32_692
  let c1_i32_696 : BitVec 32 := 1#32
  let v989 : BitVec 32 := Scalar.muli v986 c1_i32_696
  let v990 : BitVec 32 := Scalar.addi c0_i32_697 v989
  v990.toNat
def k0_dev48 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_700 : BitVec 32 := 3#32
  let v997 : BitVec 32 := Scalar.addi v2 c3_i32_700
  let c16_i32_701 : BitVec 32 := 16#32
  let v998 : BitVec 32 := Scalar.remsi v997 c16_i32_701
  let c1_i32_705 : BitVec 32 := 1#32
  let v1001 : BitVec 32 := Scalar.muli v998 c1_i32_705
  let v1002 : BitVec 32 := Scalar.addi c0_i32_706 v1001
  v1002.toNat
def k0_dev49 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_709 : BitVec 32 := 4#32
  let v1009 : BitVec 32 := Scalar.addi v2 c4_i32_709
  let c16_i32_710 : BitVec 32 := 16#32
  let v1010 : BitVec 32 := Scalar.remsi v1009 c16_i32_710
  let c1_i32_714 : BitVec 32 := 1#32
  let v1013 : BitVec 32 := Scalar.muli v1010 c1_i32_714
  let v1014 : BitVec 32 := Scalar.addi c0_i32_715 v1013
  v1014.toNat
def k0_dev50 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_718 : BitVec 32 := 5#32
  let v1021 : BitVec 32 := Scalar.addi v2 c5_i32_718
  let c16_i32_719 : BitVec 32 := 16#32
  let v1022 : BitVec 32 := Scalar.remsi v1021 c16_i32_719
  let c1_i32_723 : BitVec 32 := 1#32
  let v1025 : BitVec 32 := Scalar.muli v1022 c1_i32_723
  let v1026 : BitVec 32 := Scalar.addi c0_i32_724 v1025
  v1026.toNat
def k0_dev51 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_727 : BitVec 32 := 6#32
  let v1033 : BitVec 32 := Scalar.addi v2 c6_i32_727
  let c16_i32_728 : BitVec 32 := 16#32
  let v1034 : BitVec 32 := Scalar.remsi v1033 c16_i32_728
  let c1_i32_732 : BitVec 32 := 1#32
  let v1037 : BitVec 32 := Scalar.muli v1034 c1_i32_732
  let v1038 : BitVec 32 := Scalar.addi c0_i32_733 v1037
  v1038.toNat
def k0_dev52 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_736 : BitVec 32 := 7#32
  let v1045 : BitVec 32 := Scalar.addi v2 c7_i32_736
  let c16_i32_737 : BitVec 32 := 16#32
  let v1046 : BitVec 32 := Scalar.remsi v1045 c16_i32_737
  let c1_i32_741 : BitVec 32 := 1#32
  let v1049 : BitVec 32 := Scalar.muli v1046 c1_i32_741
  let v1050 : BitVec 32 := Scalar.addi c0_i32_742 v1049
  v1050.toNat
def k0_dev53 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_745 : BitVec 32 := 8#32
  let v1057 : BitVec 32 := Scalar.addi v2 c8_i32_745
  let c16_i32_746 : BitVec 32 := 16#32
  let v1058 : BitVec 32 := Scalar.remsi v1057 c16_i32_746
  let c1_i32_750 : BitVec 32 := 1#32
  let v1061 : BitVec 32 := Scalar.muli v1058 c1_i32_750
  let v1062 : BitVec 32 := Scalar.addi c0_i32_751 v1061
  v1062.toNat
def k0_dev54 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_754 : BitVec 32 := 9#32
  let v1069 : BitVec 32 := Scalar.addi v2 c9_i32_754
  let c16_i32_755 : BitVec 32 := 16#32
  let v1070 : BitVec 32 := Scalar.remsi v1069 c16_i32_755
  let c1_i32_759 : BitVec 32 := 1#32
  let v1073 : BitVec 32 := Scalar.muli v1070 c1_i32_759
  let v1074 : BitVec 32 := Scalar.addi c0_i32_760 v1073
  v1074.toNat
def k0_dev55 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_763 : BitVec 32 := 10#32
  let v1081 : BitVec 32 := Scalar.addi v2 c10_i32_763
  let c16_i32_764 : BitVec 32 := 16#32
  let v1082 : BitVec 32 := Scalar.remsi v1081 c16_i32_764
  let c1_i32_768 : BitVec 32 := 1#32
  let v1085 : BitVec 32 := Scalar.muli v1082 c1_i32_768
  let v1086 : BitVec 32 := Scalar.addi c0_i32_769 v1085
  v1086.toNat
def k0_dev56 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_772 : BitVec 32 := 11#32
  let v1093 : BitVec 32 := Scalar.addi v2 c11_i32_772
  let c16_i32_773 : BitVec 32 := 16#32
  let v1094 : BitVec 32 := Scalar.remsi v1093 c16_i32_773
  let c1_i32_777 : BitVec 32 := 1#32
  let v1097 : BitVec 32 := Scalar.muli v1094 c1_i32_777
  let v1098 : BitVec 32 := Scalar.addi c0_i32_778 v1097
  v1098.toNat
def k0_dev57 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_781 : BitVec 32 := 12#32
  let v1105 : BitVec 32 := Scalar.addi v2 c12_i32_781
  let c16_i32_782 : BitVec 32 := 16#32
  let v1106 : BitVec 32 := Scalar.remsi v1105 c16_i32_782
  let c1_i32_786 : BitVec 32 := 1#32
  let v1109 : BitVec 32 := Scalar.muli v1106 c1_i32_786
  let v1110 : BitVec 32 := Scalar.addi c0_i32_787 v1109
  v1110.toNat
def k0_dev58 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_790 : BitVec 32 := 13#32
  let v1117 : BitVec 32 := Scalar.addi v2 c13_i32_790
  let c16_i32_791 : BitVec 32 := 16#32
  let v1118 : BitVec 32 := Scalar.remsi v1117 c16_i32_791
  let c1_i32_795 : BitVec 32 := 1#32
  let v1121 : BitVec 32 := Scalar.muli v1118 c1_i32_795
  let v1122 : BitVec 32 := Scalar.addi c0_i32_796 v1121
  v1122.toNat
def k0_dev59 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_799 : BitVec 32 := 14#32
  let v1129 : BitVec 32 := Scalar.addi v2 c14_i32_799
  let c16_i32_800 : BitVec 32 := 16#32
  let v1130 : BitVec 32 := Scalar.remsi v1129 c16_i32_800
  let c1_i32_804 : BitVec 32 := 1#32
  let v1133 : BitVec 32 := Scalar.muli v1130 c1_i32_804
  let v1134 : BitVec 32 := Scalar.addi c0_i32_805 v1133
  v1134.toNat
def k0_dev60 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_808 : BitVec 32 := 15#32
  let v1141 : BitVec 32 := Scalar.addi v2 c15_i32_808
  let c16_i32_809 : BitVec 32 := 16#32
  let v1142 : BitVec 32 := Scalar.remsi v1141 c16_i32_809
  let c1_i32_813 : BitVec 32 := 1#32
  let v1145 : BitVec 32 := Scalar.muli v1142 c1_i32_813
  let v1146 : BitVec 32 := Scalar.addi c0_i32_814 v1145
  v1146.toNat
def k0_dev61 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_888 : BitVec 32 := 1#32
  let v1229 : BitVec 32 := Scalar.addi v2 c1_i32_888
  let c16_i32_889 : BitVec 32 := 16#32
  let v1230 : BitVec 32 := Scalar.remsi v1229 c16_i32_889
  let c1_i32_905 : BitVec 32 := 1#32
  let v1253 : BitVec 32 := Scalar.muli v1230 c1_i32_905
  let v1254 : BitVec 32 := Scalar.addi c0_i32_906 v1253
  v1254.toNat
def k0_dev62 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_909 : BitVec 32 := 2#32
  let v1261 : BitVec 32 := Scalar.addi v2 c2_i32_909
  let c16_i32_910 : BitVec 32 := 16#32
  let v1262 : BitVec 32 := Scalar.remsi v1261 c16_i32_910
  let c1_i32_926 : BitVec 32 := 1#32
  let v1285 : BitVec 32 := Scalar.muli v1262 c1_i32_926
  let v1286 : BitVec 32 := Scalar.addi c0_i32_927 v1285
  v1286.toNat
def k0_dev63 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_930 : BitVec 32 := 3#32
  let v1293 : BitVec 32 := Scalar.addi v2 c3_i32_930
  let c16_i32_931 : BitVec 32 := 16#32
  let v1294 : BitVec 32 := Scalar.remsi v1293 c16_i32_931
  let c1_i32_947 : BitVec 32 := 1#32
  let v1317 : BitVec 32 := Scalar.muli v1294 c1_i32_947
  let v1318 : BitVec 32 := Scalar.addi c0_i32_948 v1317
  v1318.toNat
def k0_dev64 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_951 : BitVec 32 := 4#32
  let v1325 : BitVec 32 := Scalar.addi v2 c4_i32_951
  let c16_i32_952 : BitVec 32 := 16#32
  let v1326 : BitVec 32 := Scalar.remsi v1325 c16_i32_952
  let c1_i32_968 : BitVec 32 := 1#32
  let v1349 : BitVec 32 := Scalar.muli v1326 c1_i32_968
  let v1350 : BitVec 32 := Scalar.addi c0_i32_969 v1349
  v1350.toNat
def k0_dev65 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_972 : BitVec 32 := 5#32
  let v1357 : BitVec 32 := Scalar.addi v2 c5_i32_972
  let c16_i32_973 : BitVec 32 := 16#32
  let v1358 : BitVec 32 := Scalar.remsi v1357 c16_i32_973
  let c1_i32_989 : BitVec 32 := 1#32
  let v1381 : BitVec 32 := Scalar.muli v1358 c1_i32_989
  let v1382 : BitVec 32 := Scalar.addi c0_i32_990 v1381
  v1382.toNat
def k0_dev66 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_993 : BitVec 32 := 6#32
  let v1389 : BitVec 32 := Scalar.addi v2 c6_i32_993
  let c16_i32_994 : BitVec 32 := 16#32
  let v1390 : BitVec 32 := Scalar.remsi v1389 c16_i32_994
  let c1_i32_1010 : BitVec 32 := 1#32
  let v1413 : BitVec 32 := Scalar.muli v1390 c1_i32_1010
  let v1414 : BitVec 32 := Scalar.addi c0_i32_1011 v1413
  v1414.toNat
def k0_dev67 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1014 : BitVec 32 := 7#32
  let v1421 : BitVec 32 := Scalar.addi v2 c7_i32_1014
  let c16_i32_1015 : BitVec 32 := 16#32
  let v1422 : BitVec 32 := Scalar.remsi v1421 c16_i32_1015
  let c1_i32_1031 : BitVec 32 := 1#32
  let v1445 : BitVec 32 := Scalar.muli v1422 c1_i32_1031
  let v1446 : BitVec 32 := Scalar.addi c0_i32_1032 v1445
  v1446.toNat
def k0_dev68 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1035 : BitVec 32 := 8#32
  let v1453 : BitVec 32 := Scalar.addi v2 c8_i32_1035
  let c16_i32_1036 : BitVec 32 := 16#32
  let v1454 : BitVec 32 := Scalar.remsi v1453 c16_i32_1036
  let c1_i32_1052 : BitVec 32 := 1#32
  let v1477 : BitVec 32 := Scalar.muli v1454 c1_i32_1052
  let v1478 : BitVec 32 := Scalar.addi c0_i32_1053 v1477
  v1478.toNat
def k0_dev69 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1056 : BitVec 32 := 9#32
  let v1485 : BitVec 32 := Scalar.addi v2 c9_i32_1056
  let c16_i32_1057 : BitVec 32 := 16#32
  let v1486 : BitVec 32 := Scalar.remsi v1485 c16_i32_1057
  let c1_i32_1073 : BitVec 32 := 1#32
  let v1509 : BitVec 32 := Scalar.muli v1486 c1_i32_1073
  let v1510 : BitVec 32 := Scalar.addi c0_i32_1074 v1509
  v1510.toNat
def k0_dev70 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1077 : BitVec 32 := 10#32
  let v1517 : BitVec 32 := Scalar.addi v2 c10_i32_1077
  let c16_i32_1078 : BitVec 32 := 16#32
  let v1518 : BitVec 32 := Scalar.remsi v1517 c16_i32_1078
  let c1_i32_1094 : BitVec 32 := 1#32
  let v1541 : BitVec 32 := Scalar.muli v1518 c1_i32_1094
  let v1542 : BitVec 32 := Scalar.addi c0_i32_1095 v1541
  v1542.toNat
def k0_dev71 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1098 : BitVec 32 := 11#32
  let v1549 : BitVec 32 := Scalar.addi v2 c11_i32_1098
  let c16_i32_1099 : BitVec 32 := 16#32
  let v1550 : BitVec 32 := Scalar.remsi v1549 c16_i32_1099
  let c1_i32_1115 : BitVec 32 := 1#32
  let v1573 : BitVec 32 := Scalar.muli v1550 c1_i32_1115
  let v1574 : BitVec 32 := Scalar.addi c0_i32_1116 v1573
  v1574.toNat
def k0_dev72 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1119 : BitVec 32 := 12#32
  let v1581 : BitVec 32 := Scalar.addi v2 c12_i32_1119
  let c16_i32_1120 : BitVec 32 := 16#32
  let v1582 : BitVec 32 := Scalar.remsi v1581 c16_i32_1120
  let c1_i32_1136 : BitVec 32 := 1#32
  let v1605 : BitVec 32 := Scalar.muli v1582 c1_i32_1136
  let v1606 : BitVec 32 := Scalar.addi c0_i32_1137 v1605
  v1606.toNat
def k0_dev73 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1140 : BitVec 32 := 13#32
  let v1613 : BitVec 32 := Scalar.addi v2 c13_i32_1140
  let c16_i32_1141 : BitVec 32 := 16#32
  let v1614 : BitVec 32 := Scalar.remsi v1613 c16_i32_1141
  let c1_i32_1157 : BitVec 32 := 1#32
  let v1637 : BitVec 32 := Scalar.muli v1614 c1_i32_1157
  let v1638 : BitVec 32 := Scalar.addi c0_i32_1158 v1637
  v1638.toNat
def k0_dev74 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1161 : BitVec 32 := 14#32
  let v1645 : BitVec 32 := Scalar.addi v2 c14_i32_1161
  let c16_i32_1162 : BitVec 32 := 16#32
  let v1646 : BitVec 32 := Scalar.remsi v1645 c16_i32_1162
  let c1_i32_1178 : BitVec 32 := 1#32
  let v1669 : BitVec 32 := Scalar.muli v1646 c1_i32_1178
  let v1670 : BitVec 32 := Scalar.addi c0_i32_1179 v1669
  v1670.toNat
def k0_dev75 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1182 : BitVec 32 := 15#32
  let v1677 : BitVec 32 := Scalar.addi v2 c15_i32_1182
  let c16_i32_1183 : BitVec 32 := 16#32
  let v1678 : BitVec 32 := Scalar.remsi v1677 c16_i32_1183
  let c1_i32_1199 : BitVec 32 := 1#32
  let v1701 : BitVec 32 := Scalar.muli v1678 c1_i32_1199
  let v1702 : BitVec 32 := Scalar.addi c0_i32_1200 v1701
  v1702.toNat
def k0_dev76 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1418 : BitVec 32 := 1#32
  let v1975 : BitVec 32 := Scalar.addi v2 c1_i32_1418
  let c16_i32_1419 : BitVec 32 := 16#32
  let v1976 : BitVec 32 := Scalar.remsi v1975 c16_i32_1419
  let c1_i32_1423 : BitVec 32 := 1#32
  let v1979 : BitVec 32 := Scalar.muli v1976 c1_i32_1423
  let v1980 : BitVec 32 := Scalar.addi c0_i32_1424 v1979
  v1980.toNat
def k0_dev77 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1427 : BitVec 32 := 2#32
  let v1987 : BitVec 32 := Scalar.addi v2 c2_i32_1427
  let c16_i32_1428 : BitVec 32 := 16#32
  let v1988 : BitVec 32 := Scalar.remsi v1987 c16_i32_1428
  let c1_i32_1432 : BitVec 32 := 1#32
  let v1991 : BitVec 32 := Scalar.muli v1988 c1_i32_1432
  let v1992 : BitVec 32 := Scalar.addi c0_i32_1433 v1991
  v1992.toNat
def k0_dev78 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1436 : BitVec 32 := 3#32
  let v1999 : BitVec 32 := Scalar.addi v2 c3_i32_1436
  let c16_i32_1437 : BitVec 32 := 16#32
  let v2000 : BitVec 32 := Scalar.remsi v1999 c16_i32_1437
  let c1_i32_1441 : BitVec 32 := 1#32
  let v2003 : BitVec 32 := Scalar.muli v2000 c1_i32_1441
  let v2004 : BitVec 32 := Scalar.addi c0_i32_1442 v2003
  v2004.toNat
def k0_dev79 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1445 : BitVec 32 := 4#32
  let v2011 : BitVec 32 := Scalar.addi v2 c4_i32_1445
  let c16_i32_1446 : BitVec 32 := 16#32
  let v2012 : BitVec 32 := Scalar.remsi v2011 c16_i32_1446
  let c1_i32_1450 : BitVec 32 := 1#32
  let v2015 : BitVec 32 := Scalar.muli v2012 c1_i32_1450
  let v2016 : BitVec 32 := Scalar.addi c0_i32_1451 v2015
  v2016.toNat
def k0_dev80 (d0 : Dev nD) : Nat :=
  let c0_i32_1460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1454 : BitVec 32 := 5#32
  let v2023 : BitVec 32 := Scalar.addi v2 c5_i32_1454
  let c16_i32_1455 : BitVec 32 := 16#32
  let v2024 : BitVec 32 := Scalar.remsi v2023 c16_i32_1455
  let c1_i32_1459 : BitVec 32 := 1#32
  let v2027 : BitVec 32 := Scalar.muli v2024 c1_i32_1459
  let v2028 : BitVec 32 := Scalar.addi c0_i32_1460 v2027
  v2028.toNat
def k0_dev81 (d0 : Dev nD) : Nat :=
  let c0_i32_1469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1463 : BitVec 32 := 6#32
  let v2035 : BitVec 32 := Scalar.addi v2 c6_i32_1463
  let c16_i32_1464 : BitVec 32 := 16#32
  let v2036 : BitVec 32 := Scalar.remsi v2035 c16_i32_1464
  let c1_i32_1468 : BitVec 32 := 1#32
  let v2039 : BitVec 32 := Scalar.muli v2036 c1_i32_1468
  let v2040 : BitVec 32 := Scalar.addi c0_i32_1469 v2039
  v2040.toNat
def k0_dev82 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1472 : BitVec 32 := 7#32
  let v2047 : BitVec 32 := Scalar.addi v2 c7_i32_1472
  let c16_i32_1473 : BitVec 32 := 16#32
  let v2048 : BitVec 32 := Scalar.remsi v2047 c16_i32_1473
  let c1_i32_1477 : BitVec 32 := 1#32
  let v2051 : BitVec 32 := Scalar.muli v2048 c1_i32_1477
  let v2052 : BitVec 32 := Scalar.addi c0_i32_1478 v2051
  v2052.toNat
def k0_dev83 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1481 : BitVec 32 := 8#32
  let v2059 : BitVec 32 := Scalar.addi v2 c8_i32_1481
  let c16_i32_1482 : BitVec 32 := 16#32
  let v2060 : BitVec 32 := Scalar.remsi v2059 c16_i32_1482
  let c1_i32_1486 : BitVec 32 := 1#32
  let v2063 : BitVec 32 := Scalar.muli v2060 c1_i32_1486
  let v2064 : BitVec 32 := Scalar.addi c0_i32_1487 v2063
  v2064.toNat
def k0_dev84 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1490 : BitVec 32 := 9#32
  let v2071 : BitVec 32 := Scalar.addi v2 c9_i32_1490
  let c16_i32_1491 : BitVec 32 := 16#32
  let v2072 : BitVec 32 := Scalar.remsi v2071 c16_i32_1491
  let c1_i32_1495 : BitVec 32 := 1#32
  let v2075 : BitVec 32 := Scalar.muli v2072 c1_i32_1495
  let v2076 : BitVec 32 := Scalar.addi c0_i32_1496 v2075
  v2076.toNat
def k0_dev85 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1499 : BitVec 32 := 10#32
  let v2083 : BitVec 32 := Scalar.addi v2 c10_i32_1499
  let c16_i32_1500 : BitVec 32 := 16#32
  let v2084 : BitVec 32 := Scalar.remsi v2083 c16_i32_1500
  let c1_i32_1504 : BitVec 32 := 1#32
  let v2087 : BitVec 32 := Scalar.muli v2084 c1_i32_1504
  let v2088 : BitVec 32 := Scalar.addi c0_i32_1505 v2087
  v2088.toNat
def k0_dev86 (d0 : Dev nD) : Nat :=
  let c0_i32_1514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1508 : BitVec 32 := 11#32
  let v2095 : BitVec 32 := Scalar.addi v2 c11_i32_1508
  let c16_i32_1509 : BitVec 32 := 16#32
  let v2096 : BitVec 32 := Scalar.remsi v2095 c16_i32_1509
  let c1_i32_1513 : BitVec 32 := 1#32
  let v2099 : BitVec 32 := Scalar.muli v2096 c1_i32_1513
  let v2100 : BitVec 32 := Scalar.addi c0_i32_1514 v2099
  v2100.toNat
def k0_dev87 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1517 : BitVec 32 := 12#32
  let v2107 : BitVec 32 := Scalar.addi v2 c12_i32_1517
  let c16_i32_1518 : BitVec 32 := 16#32
  let v2108 : BitVec 32 := Scalar.remsi v2107 c16_i32_1518
  let c1_i32_1522 : BitVec 32 := 1#32
  let v2111 : BitVec 32 := Scalar.muli v2108 c1_i32_1522
  let v2112 : BitVec 32 := Scalar.addi c0_i32_1523 v2111
  v2112.toNat
def k0_dev88 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1526 : BitVec 32 := 13#32
  let v2119 : BitVec 32 := Scalar.addi v2 c13_i32_1526
  let c16_i32_1527 : BitVec 32 := 16#32
  let v2120 : BitVec 32 := Scalar.remsi v2119 c16_i32_1527
  let c1_i32_1531 : BitVec 32 := 1#32
  let v2123 : BitVec 32 := Scalar.muli v2120 c1_i32_1531
  let v2124 : BitVec 32 := Scalar.addi c0_i32_1532 v2123
  v2124.toNat
def k0_dev89 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1535 : BitVec 32 := 14#32
  let v2131 : BitVec 32 := Scalar.addi v2 c14_i32_1535
  let c16_i32_1536 : BitVec 32 := 16#32
  let v2132 : BitVec 32 := Scalar.remsi v2131 c16_i32_1536
  let c1_i32_1540 : BitVec 32 := 1#32
  let v2135 : BitVec 32 := Scalar.muli v2132 c1_i32_1540
  let v2136 : BitVec 32 := Scalar.addi c0_i32_1541 v2135
  v2136.toNat
def k0_dev90 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1544 : BitVec 32 := 15#32
  let v2143 : BitVec 32 := Scalar.addi v2 c15_i32_1544
  let c16_i32_1545 : BitVec 32 := 16#32
  let v2144 : BitVec 32 := Scalar.remsi v2143 c16_i32_1545
  let c1_i32_1549 : BitVec 32 := 1#32
  let v2147 : BitVec 32 := Scalar.muli v2144 c1_i32_1549
  let v2148 : BitVec 32 := Scalar.addi c0_i32_1550 v2147
  v2148.toNat
def k0_dev91 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1624 : BitVec 32 := 1#32
  let v2231 : BitVec 32 := Scalar.addi v2 c1_i32_1624
  let c16_i32_1625 : BitVec 32 := 16#32
  let v2232 : BitVec 32 := Scalar.remsi v2231 c16_i32_1625
  let c1_i32_1641 : BitVec 32 := 1#32
  let v2255 : BitVec 32 := Scalar.muli v2232 c1_i32_1641
  let v2256 : BitVec 32 := Scalar.addi c0_i32_1642 v2255
  v2256.toNat
def k0_dev92 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1645 : BitVec 32 := 2#32
  let v2263 : BitVec 32 := Scalar.addi v2 c2_i32_1645
  let c16_i32_1646 : BitVec 32 := 16#32
  let v2264 : BitVec 32 := Scalar.remsi v2263 c16_i32_1646
  let c1_i32_1662 : BitVec 32 := 1#32
  let v2287 : BitVec 32 := Scalar.muli v2264 c1_i32_1662
  let v2288 : BitVec 32 := Scalar.addi c0_i32_1663 v2287
  v2288.toNat
def k0_dev93 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1666 : BitVec 32 := 3#32
  let v2295 : BitVec 32 := Scalar.addi v2 c3_i32_1666
  let c16_i32_1667 : BitVec 32 := 16#32
  let v2296 : BitVec 32 := Scalar.remsi v2295 c16_i32_1667
  let c1_i32_1683 : BitVec 32 := 1#32
  let v2319 : BitVec 32 := Scalar.muli v2296 c1_i32_1683
  let v2320 : BitVec 32 := Scalar.addi c0_i32_1684 v2319
  v2320.toNat
def k0_dev94 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1687 : BitVec 32 := 4#32
  let v2327 : BitVec 32 := Scalar.addi v2 c4_i32_1687
  let c16_i32_1688 : BitVec 32 := 16#32
  let v2328 : BitVec 32 := Scalar.remsi v2327 c16_i32_1688
  let c1_i32_1704 : BitVec 32 := 1#32
  let v2351 : BitVec 32 := Scalar.muli v2328 c1_i32_1704
  let v2352 : BitVec 32 := Scalar.addi c0_i32_1705 v2351
  v2352.toNat
def k0_dev95 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1708 : BitVec 32 := 5#32
  let v2359 : BitVec 32 := Scalar.addi v2 c5_i32_1708
  let c16_i32_1709 : BitVec 32 := 16#32
  let v2360 : BitVec 32 := Scalar.remsi v2359 c16_i32_1709
  let c1_i32_1725 : BitVec 32 := 1#32
  let v2383 : BitVec 32 := Scalar.muli v2360 c1_i32_1725
  let v2384 : BitVec 32 := Scalar.addi c0_i32_1726 v2383
  v2384.toNat
def k0_dev96 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1729 : BitVec 32 := 6#32
  let v2391 : BitVec 32 := Scalar.addi v2 c6_i32_1729
  let c16_i32_1730 : BitVec 32 := 16#32
  let v2392 : BitVec 32 := Scalar.remsi v2391 c16_i32_1730
  let c1_i32_1746 : BitVec 32 := 1#32
  let v2415 : BitVec 32 := Scalar.muli v2392 c1_i32_1746
  let v2416 : BitVec 32 := Scalar.addi c0_i32_1747 v2415
  v2416.toNat
def k0_dev97 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1750 : BitVec 32 := 7#32
  let v2423 : BitVec 32 := Scalar.addi v2 c7_i32_1750
  let c16_i32_1751 : BitVec 32 := 16#32
  let v2424 : BitVec 32 := Scalar.remsi v2423 c16_i32_1751
  let c1_i32_1767 : BitVec 32 := 1#32
  let v2447 : BitVec 32 := Scalar.muli v2424 c1_i32_1767
  let v2448 : BitVec 32 := Scalar.addi c0_i32_1768 v2447
  v2448.toNat
def k0_dev98 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1771 : BitVec 32 := 8#32
  let v2455 : BitVec 32 := Scalar.addi v2 c8_i32_1771
  let c16_i32_1772 : BitVec 32 := 16#32
  let v2456 : BitVec 32 := Scalar.remsi v2455 c16_i32_1772
  let c1_i32_1788 : BitVec 32 := 1#32
  let v2479 : BitVec 32 := Scalar.muli v2456 c1_i32_1788
  let v2480 : BitVec 32 := Scalar.addi c0_i32_1789 v2479
  v2480.toNat
def k0_dev99 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1792 : BitVec 32 := 9#32
  let v2487 : BitVec 32 := Scalar.addi v2 c9_i32_1792
  let c16_i32_1793 : BitVec 32 := 16#32
  let v2488 : BitVec 32 := Scalar.remsi v2487 c16_i32_1793
  let c1_i32_1809 : BitVec 32 := 1#32
  let v2511 : BitVec 32 := Scalar.muli v2488 c1_i32_1809
  let v2512 : BitVec 32 := Scalar.addi c0_i32_1810 v2511
  v2512.toNat
def k0_dev100 (d0 : Dev nD) : Nat :=
  let c0_i32_1831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1813 : BitVec 32 := 10#32
  let v2519 : BitVec 32 := Scalar.addi v2 c10_i32_1813
  let c16_i32_1814 : BitVec 32 := 16#32
  let v2520 : BitVec 32 := Scalar.remsi v2519 c16_i32_1814
  let c1_i32_1830 : BitVec 32 := 1#32
  let v2543 : BitVec 32 := Scalar.muli v2520 c1_i32_1830
  let v2544 : BitVec 32 := Scalar.addi c0_i32_1831 v2543
  v2544.toNat
def k0_dev101 (d0 : Dev nD) : Nat :=
  let c0_i32_1852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1834 : BitVec 32 := 11#32
  let v2551 : BitVec 32 := Scalar.addi v2 c11_i32_1834
  let c16_i32_1835 : BitVec 32 := 16#32
  let v2552 : BitVec 32 := Scalar.remsi v2551 c16_i32_1835
  let c1_i32_1851 : BitVec 32 := 1#32
  let v2575 : BitVec 32 := Scalar.muli v2552 c1_i32_1851
  let v2576 : BitVec 32 := Scalar.addi c0_i32_1852 v2575
  v2576.toNat
def k0_dev102 (d0 : Dev nD) : Nat :=
  let c0_i32_1873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1855 : BitVec 32 := 12#32
  let v2583 : BitVec 32 := Scalar.addi v2 c12_i32_1855
  let c16_i32_1856 : BitVec 32 := 16#32
  let v2584 : BitVec 32 := Scalar.remsi v2583 c16_i32_1856
  let c1_i32_1872 : BitVec 32 := 1#32
  let v2607 : BitVec 32 := Scalar.muli v2584 c1_i32_1872
  let v2608 : BitVec 32 := Scalar.addi c0_i32_1873 v2607
  v2608.toNat
def k0_dev103 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1876 : BitVec 32 := 13#32
  let v2615 : BitVec 32 := Scalar.addi v2 c13_i32_1876
  let c16_i32_1877 : BitVec 32 := 16#32
  let v2616 : BitVec 32 := Scalar.remsi v2615 c16_i32_1877
  let c1_i32_1893 : BitVec 32 := 1#32
  let v2639 : BitVec 32 := Scalar.muli v2616 c1_i32_1893
  let v2640 : BitVec 32 := Scalar.addi c0_i32_1894 v2639
  v2640.toNat
def k0_dev104 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1897 : BitVec 32 := 14#32
  let v2647 : BitVec 32 := Scalar.addi v2 c14_i32_1897
  let c16_i32_1898 : BitVec 32 := 16#32
  let v2648 : BitVec 32 := Scalar.remsi v2647 c16_i32_1898
  let c1_i32_1914 : BitVec 32 := 1#32
  let v2671 : BitVec 32 := Scalar.muli v2648 c1_i32_1914
  let v2672 : BitVec 32 := Scalar.addi c0_i32_1915 v2671
  v2672.toNat
def k0_dev105 (d0 : Dev nD) : Nat :=
  let c0_i32_1936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1918 : BitVec 32 := 15#32
  let v2679 : BitVec 32 := Scalar.addi v2 c15_i32_1918
  let c16_i32_1919 : BitVec 32 := 16#32
  let v2680 : BitVec 32 := Scalar.remsi v2679 c16_i32_1919
  let c1_i32_1935 : BitVec 32 := 1#32
  let v2703 : BitVec 32 := Scalar.muli v2680 c1_i32_1935
  let v2704 : BitVec 32 := Scalar.addi c0_i32_1936 v2703
  v2704.toNat
def k0_dev106 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2154 : BitVec 32 := 1#32
  let v2977 : BitVec 32 := Scalar.addi v2 c1_i32_2154
  let c16_i32_2155 : BitVec 32 := 16#32
  let v2978 : BitVec 32 := Scalar.remsi v2977 c16_i32_2155
  let c1_i32_2159 : BitVec 32 := 1#32
  let v2981 : BitVec 32 := Scalar.muli v2978 c1_i32_2159
  let v2982 : BitVec 32 := Scalar.addi c0_i32_2160 v2981
  v2982.toNat
def k0_dev107 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2163 : BitVec 32 := 2#32
  let v2989 : BitVec 32 := Scalar.addi v2 c2_i32_2163
  let c16_i32_2164 : BitVec 32 := 16#32
  let v2990 : BitVec 32 := Scalar.remsi v2989 c16_i32_2164
  let c1_i32_2168 : BitVec 32 := 1#32
  let v2993 : BitVec 32 := Scalar.muli v2990 c1_i32_2168
  let v2994 : BitVec 32 := Scalar.addi c0_i32_2169 v2993
  v2994.toNat
def k0_dev108 (d0 : Dev nD) : Nat :=
  let c0_i32_2178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2172 : BitVec 32 := 3#32
  let v3001 : BitVec 32 := Scalar.addi v2 c3_i32_2172
  let c16_i32_2173 : BitVec 32 := 16#32
  let v3002 : BitVec 32 := Scalar.remsi v3001 c16_i32_2173
  let c1_i32_2177 : BitVec 32 := 1#32
  let v3005 : BitVec 32 := Scalar.muli v3002 c1_i32_2177
  let v3006 : BitVec 32 := Scalar.addi c0_i32_2178 v3005
  v3006.toNat
def k0_dev109 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2181 : BitVec 32 := 4#32
  let v3013 : BitVec 32 := Scalar.addi v2 c4_i32_2181
  let c16_i32_2182 : BitVec 32 := 16#32
  let v3014 : BitVec 32 := Scalar.remsi v3013 c16_i32_2182
  let c1_i32_2186 : BitVec 32 := 1#32
  let v3017 : BitVec 32 := Scalar.muli v3014 c1_i32_2186
  let v3018 : BitVec 32 := Scalar.addi c0_i32_2187 v3017
  v3018.toNat
def k0_dev110 (d0 : Dev nD) : Nat :=
  let c0_i32_2196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2190 : BitVec 32 := 5#32
  let v3025 : BitVec 32 := Scalar.addi v2 c5_i32_2190
  let c16_i32_2191 : BitVec 32 := 16#32
  let v3026 : BitVec 32 := Scalar.remsi v3025 c16_i32_2191
  let c1_i32_2195 : BitVec 32 := 1#32
  let v3029 : BitVec 32 := Scalar.muli v3026 c1_i32_2195
  let v3030 : BitVec 32 := Scalar.addi c0_i32_2196 v3029
  v3030.toNat
def k0_dev111 (d0 : Dev nD) : Nat :=
  let c0_i32_2205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2199 : BitVec 32 := 6#32
  let v3037 : BitVec 32 := Scalar.addi v2 c6_i32_2199
  let c16_i32_2200 : BitVec 32 := 16#32
  let v3038 : BitVec 32 := Scalar.remsi v3037 c16_i32_2200
  let c1_i32_2204 : BitVec 32 := 1#32
  let v3041 : BitVec 32 := Scalar.muli v3038 c1_i32_2204
  let v3042 : BitVec 32 := Scalar.addi c0_i32_2205 v3041
  v3042.toNat
def k0_dev112 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2208 : BitVec 32 := 7#32
  let v3049 : BitVec 32 := Scalar.addi v2 c7_i32_2208
  let c16_i32_2209 : BitVec 32 := 16#32
  let v3050 : BitVec 32 := Scalar.remsi v3049 c16_i32_2209
  let c1_i32_2213 : BitVec 32 := 1#32
  let v3053 : BitVec 32 := Scalar.muli v3050 c1_i32_2213
  let v3054 : BitVec 32 := Scalar.addi c0_i32_2214 v3053
  v3054.toNat
def k0_dev113 (d0 : Dev nD) : Nat :=
  let c0_i32_2223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2217 : BitVec 32 := 8#32
  let v3061 : BitVec 32 := Scalar.addi v2 c8_i32_2217
  let c16_i32_2218 : BitVec 32 := 16#32
  let v3062 : BitVec 32 := Scalar.remsi v3061 c16_i32_2218
  let c1_i32_2222 : BitVec 32 := 1#32
  let v3065 : BitVec 32 := Scalar.muli v3062 c1_i32_2222
  let v3066 : BitVec 32 := Scalar.addi c0_i32_2223 v3065
  v3066.toNat
def k0_dev114 (d0 : Dev nD) : Nat :=
  let c0_i32_2232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2226 : BitVec 32 := 9#32
  let v3073 : BitVec 32 := Scalar.addi v2 c9_i32_2226
  let c16_i32_2227 : BitVec 32 := 16#32
  let v3074 : BitVec 32 := Scalar.remsi v3073 c16_i32_2227
  let c1_i32_2231 : BitVec 32 := 1#32
  let v3077 : BitVec 32 := Scalar.muli v3074 c1_i32_2231
  let v3078 : BitVec 32 := Scalar.addi c0_i32_2232 v3077
  v3078.toNat
def k0_dev115 (d0 : Dev nD) : Nat :=
  let c0_i32_2241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2235 : BitVec 32 := 10#32
  let v3085 : BitVec 32 := Scalar.addi v2 c10_i32_2235
  let c16_i32_2236 : BitVec 32 := 16#32
  let v3086 : BitVec 32 := Scalar.remsi v3085 c16_i32_2236
  let c1_i32_2240 : BitVec 32 := 1#32
  let v3089 : BitVec 32 := Scalar.muli v3086 c1_i32_2240
  let v3090 : BitVec 32 := Scalar.addi c0_i32_2241 v3089
  v3090.toNat
def k0_dev116 (d0 : Dev nD) : Nat :=
  let c0_i32_2250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2244 : BitVec 32 := 11#32
  let v3097 : BitVec 32 := Scalar.addi v2 c11_i32_2244
  let c16_i32_2245 : BitVec 32 := 16#32
  let v3098 : BitVec 32 := Scalar.remsi v3097 c16_i32_2245
  let c1_i32_2249 : BitVec 32 := 1#32
  let v3101 : BitVec 32 := Scalar.muli v3098 c1_i32_2249
  let v3102 : BitVec 32 := Scalar.addi c0_i32_2250 v3101
  v3102.toNat
def k0_dev117 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2253 : BitVec 32 := 12#32
  let v3109 : BitVec 32 := Scalar.addi v2 c12_i32_2253
  let c16_i32_2254 : BitVec 32 := 16#32
  let v3110 : BitVec 32 := Scalar.remsi v3109 c16_i32_2254
  let c1_i32_2258 : BitVec 32 := 1#32
  let v3113 : BitVec 32 := Scalar.muli v3110 c1_i32_2258
  let v3114 : BitVec 32 := Scalar.addi c0_i32_2259 v3113
  v3114.toNat
def k0_dev118 (d0 : Dev nD) : Nat :=
  let c0_i32_2268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2262 : BitVec 32 := 13#32
  let v3121 : BitVec 32 := Scalar.addi v2 c13_i32_2262
  let c16_i32_2263 : BitVec 32 := 16#32
  let v3122 : BitVec 32 := Scalar.remsi v3121 c16_i32_2263
  let c1_i32_2267 : BitVec 32 := 1#32
  let v3125 : BitVec 32 := Scalar.muli v3122 c1_i32_2267
  let v3126 : BitVec 32 := Scalar.addi c0_i32_2268 v3125
  v3126.toNat
def k0_dev119 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2271 : BitVec 32 := 14#32
  let v3133 : BitVec 32 := Scalar.addi v2 c14_i32_2271
  let c16_i32_2272 : BitVec 32 := 16#32
  let v3134 : BitVec 32 := Scalar.remsi v3133 c16_i32_2272
  let c1_i32_2276 : BitVec 32 := 1#32
  let v3137 : BitVec 32 := Scalar.muli v3134 c1_i32_2276
  let v3138 : BitVec 32 := Scalar.addi c0_i32_2277 v3137
  v3138.toNat
def k0_dev120 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2280 : BitVec 32 := 15#32
  let v3145 : BitVec 32 := Scalar.addi v2 c15_i32_2280
  let c16_i32_2281 : BitVec 32 := 16#32
  let v3146 : BitVec 32 := Scalar.remsi v3145 c16_i32_2281
  let c1_i32_2285 : BitVec 32 := 1#32
  let v3149 : BitVec 32 := Scalar.muli v3146 c1_i32_2285
  let v3150 : BitVec 32 := Scalar.addi c0_i32_2286 v3149
  v3150.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x128 : Shape := ⟨2, ![2048, 128]⟩
abbrev S128x4096 : Shape := ⟨2, ![128, 4096]⟩
abbrev S4096x128 : Shape := ⟨2, ![4096, 128]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x4096, .f32⟩
  | .hbm, ⟨2, _⟩ => ⟨S4096x128, .f32⟩
  | .hbm, ⟨3, _⟩ => ⟨S128x4096, .f32⟩
  | .hbm, ⟨4, _⟩ => ⟨S4096x128, .f32⟩
  | .hbm, ⟨5, _⟩ => ⟨S128x4096, .f32⟩
  | .hbm, ⟨6, _⟩ => ⟨S4096x128, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x128, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x128, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Prog.lean ====
/- For `KernelIdeal`, the program of the claims over the extended reals; the text is that of the module of the same name
   for `Kernel`.
   The kernel body as loops: what `cc0_body` does, written once per phase instead of once per peer.
   `body_eq` says that the printed body is this program. -/
module

public import proofs.«01_k».proof.Proof.Gen.KernelIdeal
public import Idealize.ShloMosaic.Lib.Pipeline.Regions

@[expose] public section

noncomputable section

namespace Cert.Proof.KI

open Idealize.ShloMosaic Idealize.ShloMosaic.TcCoe Idealize.SL.Sem
open Cert.KernelIdeal Cert.KernelIdeal.Gen

variable {F : FTy → Type} [FloatOps F]

/-- Run `f 0`, `f 1`, …, `f (n-1)`. -/
def forN {E : Type → Type} : (n : ℕ) → (Fin n → Prog E PUnit) → Prog E PUnit
  | 0, _ => pure ⟨⟩
  | n + 1, f => do
    f 0
    forN n fun i => f i.succ

/-- Run `f 0 a`, then `f 1` on what it returned, …: a loop with an accumulator. -/
def foldN {E : Type → Type} {A : Type} : (n : ℕ) → (Fin n → A → Prog E A) → A → Prog E A
  | 0, _, a => pure a
  | n + 1, f, a => do
    let a' ← f 0 a
    foldN n (fun i => f i.succ) a'

/-! ## The devices addressed, as printed -/

/-- The device the `k`-th barrier signal goes to. -/
def barDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩]

/-- The device the `k`-th copy of all-gather phase 0 goes to. -/
def agDev0 (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩]

/-- The device the `k`-th copy of all-gather phase 1 goes to. -/
def agDev1 (d : Dev nD) : Fin 15 → Dev nD :=
  ![⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩]

/-- The device the `k`-th copy of all-gather phase 2 goes to. -/
def agDev2 (d : Dev nD) : Fin 15 → Dev nD :=
  ![⟨k0_dev76 d, k0_dev76_lt d⟩, ⟨k0_dev77 d, k0_dev77_lt d⟩, ⟨k0_dev78 d, k0_dev78_lt d⟩, ⟨k0_dev79 d, k0_dev79_lt d⟩, ⟨k0_dev80 d, k0_dev80_lt d⟩, ⟨k0_dev81 d, k0_dev81_lt d⟩, ⟨k0_dev82 d, k0_dev82_lt d⟩, ⟨k0_dev83 d, k0_dev83_lt d⟩, ⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩]

/-- The device the `k`-th copy of all-gather phase 3 goes to. -/
def agDev3 (d : Dev nD) : Fin 15 → Dev nD :=
  ![⟨k0_dev106 d, k0_dev106_lt d⟩, ⟨k0_dev107 d, k0_dev107_lt d⟩, ⟨k0_dev108 d, k0_dev108_lt d⟩, ⟨k0_dev109 d, k0_dev109_lt d⟩, ⟨k0_dev110 d, k0_dev110_lt d⟩, ⟨k0_dev111 d, k0_dev111_lt d⟩, ⟨k0_dev112 d, k0_dev112_lt d⟩, ⟨k0_dev113 d, k0_dev113_lt d⟩, ⟨k0_dev114 d, k0_dev114_lt d⟩, ⟨k0_dev115 d, k0_dev115_lt d⟩, ⟨k0_dev116 d, k0_dev116_lt d⟩, ⟨k0_dev117 d, k0_dev117_lt d⟩, ⟨k0_dev118 d, k0_dev118_lt d⟩, ⟨k0_dev119 d, k0_dev119_lt d⟩, ⟨k0_dev120 d, k0_dev120_lt d⟩]

/-- The device the `k`-th copy of the reduce-scatter of layer 0 goes to. -/
def rsDev0 (d : Dev nD) : Fin 15 → Dev nD :=
  ![⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩]

/-- The device the `k`-th copy of the reduce-scatter of layer 1 goes to. -/
def rsDev1 (d : Dev nD) : Fin 15 → Dev nD :=
  ![⟨k0_dev61 d, k0_dev61_lt d⟩, ⟨k0_dev62 d, k0_dev62_lt d⟩, ⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩]

/-- The device the `k`-th copy of the reduce-scatter of layer 2 goes to. -/
def rsDev2 (d : Dev nD) : Fin 15 → Dev nD :=
  ![⟨k0_dev91 d, k0_dev91_lt d⟩, ⟨k0_dev92 d, k0_dev92_lt d⟩, ⟨k0_dev93 d, k0_dev93_lt d⟩, ⟨k0_dev94 d, k0_dev94_lt d⟩, ⟨k0_dev95 d, k0_dev95_lt d⟩, ⟨k0_dev96 d, k0_dev96_lt d⟩, ⟨k0_dev97 d, k0_dev97_lt d⟩, ⟨k0_dev98 d, k0_dev98_lt d⟩, ⟨k0_dev99 d, k0_dev99_lt d⟩, ⟨k0_dev100 d, k0_dev100_lt d⟩, ⟨k0_dev101 d, k0_dev101_lt d⟩, ⟨k0_dev102 d, k0_dev102_lt d⟩, ⟨k0_dev103 d, k0_dev103_lt d⟩, ⟨k0_dev104 d, k0_dev104_lt d⟩, ⟨k0_dev105 d, k0_dev105_lt d⟩]

/-- The first block's staged read, cast and rounded. -/
def castX (v : Vec F S128x128 .f32) : FVec F S128x128 .bf16 :=
  shapeCast S128x128 (truncf .bf16 (shapeCast S128x128 v shapeCasts_S128x128_S128x128) bitsLt_bf16_f32) shapeCasts_S128x128_S128x128

/-- A first weight, rounded. -/
def castIn (v : Vec F S128x256 .f32) : FVec F S128x256 .bf16 :=
  truncf .bf16 (shapeCast S128x256 v shapeCasts_S128x256_S128x256) bitsLt_bf16_f32

/-- A second weight, rounded. -/
def castOut (v : Vec F S256x128 .f32) : FVec F S256x128 .bf16 :=
  truncf .bf16 (shapeCast S256x128 v shapeCasts_S256x128_S256x128) bitsLt_bf16_f32

/-- One device's partial product for one block of rows: `max (x · win) 0 · wout`. -/
def ffn (win : FVec F S128x256 .bf16) (wout : FVec F S256x128 .bf16) (x : Vec F S128x128 .bf16) : FVec F S128x128 .f32 :=
  matmul dot_S128x256_S256x128_S128x128_1_0_0_1_n_n none
    (truncf .bf16 (maximumf (matmul dot_S128x128_S128x256_S128x256_1_0_0_1_n_n none x win (constant S128x256 .f32 0x00000000#32))
      (broadcast S128x256 (Scalar.ofBits (F := F) .f32 0x00000000#32))) bitsLt_bf16_f32)
    wout (constant S128x128 .f32 0x00000000#32)

/-- A block of sums rounded to what is stored and sent. -/
def roundB (v : FVec F S128x128 .f32) : FVec F S128x128 .bf16 :=
  shapeCast S128x128 (truncf .bf16 v bitsLt_bf16_f32) shapeCasts_S128x128_S128x128

/-- One step of the reduction over the peers: `acc` plus peer `s`'s block, or `acc` alone for the device's own slot. -/
def redStep (v2 s : BitVec 32) (acc : FVec F S128x128 .f32) (v : Vec F S128x128 .bf16) : FVec F S128x128 .f32 :=
  Scalar.select (Scalar.cmpi .eq v2 s) acc (addf acc (extf .f32 v bitsLt_bf16_f32))

theorem inbS15 : ∀ k : Fin 15, ∀ a, (![k.val] : Fin 1 → Nat) a + S1.size a ≤ S15.size a := by decide
theorem inbRow : ∀ s : Fin 16, ∀ a, (![128 * s.val, 0] : Fin 2 → Nat) a + S128x128.size a ≤ S2048x128.size a := by decide

/-- The whole of a 128×128 array. -/
abbrev rAll : Rect S128x128 := Rect.unit (s := S128x128) ![0, 0] S128x128.size inb_S128x128_S128x128_0_0
/-- The device's own block of rows, as the stores address it. -/
abbrev rOwn (d : Dev nD) : Rect S2048x128 := Rect.unit (s := S2048x128) (k0_off1 d) S128x128.size (k0_off1_inb d)
/-- The device's own block of rows, as the copies address it. -/
abbrev rSrc (d : Dev nD) : Rect S2048x128 := Rect.unit (s := S2048x128) (k0_off3 d) S128x128.size (k0_off3_inb d)
/-- The block of rows of the `r`-th peer, as the loads address it. -/
abbrev rPeer (d : Dev nD) (r : Fin 16) : Rect S2048x128 :=
  Rect.unit (s := S2048x128) (k0_off4 d (BitVec.ofNat 32 r.val)) S128x128.size (k0_off4_inb d r)
/-- The block of rows of peer `1 + k`, as the copies address it. -/
abbrev rCopy (d : Dev nD) (k : Fin 15) : Rect S2048x128 :=
  Rect.unit (s := S2048x128) (k0_off6 d (BitVec.ofNat 32 (1 + k.val))) S128x128.size (k0_off6_inb d k)
/-- The `s`-th block of rows. -/
abbrev rRow (s : Fin 16) : Rect S2048x128 := Rect.unit (s := S2048x128) ![128 * s.val, 0] S128x128.size (inbRow s)

/-- The semaphore the device's copies complete on at their target: the device's own place in the target's array. -/
abbrev semOwn (a : DmaSems sig S16) (d : Dev nD) : DmaSem sig :=
  ((a.slice (Rect.unit (s := S16) (k0_off2 d) S1.size (k0_off2_inb d))).squeeze S_ squeezes_S1_S_).sem
/-- The semaphore the copy of peer `1 + k` completes on here. -/
abbrev semPeer (a : DmaSems sig S16) (d : Dev nD) (k : Fin 15) : DmaSem sig :=
  ((a.slice (Rect.unit (s := S16) (k0_off5 d (BitVec.ofNat 32 (1 + k.val))) S1.size (k0_off5_inb d k))).squeeze S_ squeezes_S1_S_).sem
/-- The semaphore that says that the `k`-th copy has left its source. -/
abbrev semSend (a : DmaSems sig S15) (k : Fin 15) : DmaSem sig :=
  ((a.slice (Rect.unit (s := S15) ![k.val] S1.size (inbS15 k))).squeeze S_ squeezes_S1_S_).sem

variable (F) in
/-- A program of a TensorCore thread. -/
abbrev TP (α : Type) := Prog (TpuEff nD τ sig (Elt F) Λ₀ .tc) α

section Body

variable (arg0 : Memref sig .tc .vmem S128x128 .f32) (harg0 : arg0.IsWhole) (arg1 : Memref sig .tc .vmem S128x256 .f32) (harg1 : arg1.IsWhole)
  (arg2 : Memref sig .tc .vmem S256x128 .f32) (harg2 : arg2.IsWhole) (arg3 : Memref sig .tc .vmem S128x256 .f32) (harg3 : arg3.IsWhole)
  (arg4 : Memref sig .tc .vmem S256x128 .f32) (harg4 : arg4.IsWhole) (arg5 : Memref sig .tc .vmem S128x256 .f32) (harg5 : arg5.IsWhole)
  (arg6 : Memref sig .tc .vmem S256x128 .f32) (harg6 : arg6.IsWhole) (arg7 : Memref sig .tc .vmem S2048x128 .f32) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S2048x128 .bf16) (harg10 : arg10.IsWhole) (arg11 : Memref sig .tc .vmem S128x128 .bf16) (harg11 : arg11.IsWhole)
  (arg12 : DmaSems sig S15) (arg13 : DmaSems sig S15) (arg14 : DmaSems sig S16) (arg15 : DmaSems sig S16)

/-- A load of a block of rows of a 2048×128 array. -/
abbrev loadRows {e : EltTy} (m : Memref sig .tc .vmem S2048x128 e) (off : Fin 2 → Nat) (h : ∀ a, off a + S128x128.size a ≤ S2048x128.size a) :
    TP F (Vec F S128x128 e) :=
  Prog.lift (.load m (Rect.unit (s := S2048x128) off S128x128.size h).toLoadRect (View.loadsAt_vmem h_S128x128))

/-- The handshake's signals: one to every peer. -/
def sigs (d : Dev nD) : TP F PUnit :=
  forN 15 fun k => semSignalWord (barDev d k) (SemArray.scalar (sig.barrier 0 rfl) : Sems sig S_).sem 1#32

/-- The device's own rows, rounded, kept twice: as the source of the first copies, and in its place of the gathered array. -/
def start (d : Dev nD) : TP F PUnit := do
  let v64 : Vec F S128x128 .f32 ← Prog.lift (.load arg0 rAll.toLoadRect (View.loadsAt_vmem h_S128x128))
  let _v : Vec F S128x128 .bf16 ← Prog.lift (.load arg11 rAll.toLoadRect (View.loadsAt_vmem h_S128x128))
  Prog.lift (.store arg11 rAll (castX v64) Finset.univ (View.stores_vmem h_S128x128 (harg11.storeExact_slice rfl _ packedbf16_S128x128_S128x128_0_0) (fun _ => rfl)) (.inl rfl))
  let v70 : Vec F S128x128 .bf16 ← Prog.lift (.load arg11 rAll.toLoadRect (View.loadsAt_vmem h_S128x128))
  let _v ← loadRows arg8 (k0_off1 d) (k0_off1_inb d)
  Prog.lift (.store arg8 (rOwn d) (shapeCast S128x128 v70 shapeCasts_S128x128_S128x128) Finset.univ (View.stores_vmem h_S128x128 (harg8.storeExact_slice rfl _ (k0_off1_packedbf16 d)) (fun _ => rfl)) (.inl rfl))

/-- The first all-gather's copies, from the rounded rows. -/
def ag0 (d : Dev nD) : TP F PUnit :=
  forN 15 fun k => Prog.lift (.enqueueDma arg11 (.remote (Dev.tc (agDev0 d k)) (arg8.slice (rSrc d) (fun _ => rfl)) (.dma (semSend arg13 k)))
    (.dma (semOwn arg14 d)) harg11.wordExact (harg8.wordExact_slice rfl _ (k0_off3_wordsbf16 d)) ⟨⟨rfl, Or.inl rfl⟩, trivial⟩)

/-- A later all-gather's copies, from the device's place of the gathered array. -/
def agN (dev : Fin 15 → Dev nD) (d : Dev nD) : TP F PUnit :=
  forN 15 fun k => Prog.lift (.enqueueDma (arg8.slice (rSrc d) (fun _ => rfl)) (.remote (Dev.tc (dev k)) (arg8.slice (rSrc d) (fun _ => rfl)) (.dma (semSend arg13 k)))
    (.dma (semOwn arg14 d)) (harg8.wordExact_slice rfl _ (k0_off3_wordsbf16 d)) (harg8.wordExact_slice rfl _ (k0_off3_wordsbf16 d)) ⟨⟨rfl, Or.inl rfl⟩, trivial⟩)

/-- The wait for peer `1 + k`'s rows. -/
def waitAg (d : Dev nD) (k : Fin 15) : TP F PUnit :=
  Prog.lift (.waitDma2 (semPeer arg14 d k) arg11 (arg8.slice (rCopy d k) (fun _ => rfl)) harg11.wordExact (harg8.wordExact_slice rfl _ (k0_off6_wordsbf16 d k)))

/-- One peer's chunk in a layer: its rows awaited, its partial product formed, kept and sent back to it. -/
def chunk (dev : Fin 15 → Dev nD) (d : Dev nD) (win : FVec F S128x256 .bf16) (wout : FVec F S256x128 .bf16) (k : Fin 15) : TP F PUnit := do
  waitAg arg8 harg8 arg11 harg11 arg14 d k
  let xs ← loadRows arg8 (k0_off4 d (BitVec.ofNat 32 k.succ.val)) (k0_off4_inb d k.succ)
  let _v ← loadRows arg10 (k0_off4 d (BitVec.ofNat 32 k.succ.val)) (k0_off4_inb d k.succ)
  Prog.lift (.store arg10 (rPeer d k.succ) (roundB (ffn win wout xs)) Finset.univ (View.stores_vmem h_S128x128 (harg10.storeExact_slice rfl _ (k0_off4_packedbf16 d k.succ)) (fun _ => rfl)) (.inl rfl))
  Prog.lift (.enqueueDma (arg10.slice (rCopy d k) (fun _ => rfl)) (.remote (Dev.tc (dev k)) (arg9.slice (rSrc d) (fun _ => rfl)) (.dma (semSend arg12 k)))
    (.dma (semOwn arg15 d)) (harg10.wordExact_slice rfl _ (k0_off6_wordsbf16 d k)) (harg9.wordExact_slice rfl _ (k0_off3_wordsbf16 d)) ⟨⟨rfl, Or.inl rfl⟩, trivial⟩)

/-- The waits for the peers' partial products. -/
def waitRs (d : Dev nD) : TP F PUnit :=
  forN 15 fun k => Prog.lift (.waitDma2 (semPeer arg15 d k) arg11 (arg9.slice (rCopy d k) (fun _ => rfl)) harg11.wordExact (harg9.wordExact_slice rfl _ (k0_off6_wordsbf16 d k)))

/-- The reduction: the device's own product and, in the order of the devices, the others'. -/
def reduce (v2 : BitVec 32) (own : FVec F S128x128 .f32) : TP F (FVec F S128x128 .f32) :=
  foldN 16 (fun s acc => do
    let v ← loadRows arg9 ![128 * s.val, 0] (inbRow s)
    pure (redStep v2 (BitVec.ofNat 32 s.val) acc v)) own

/-- A layer up to its reduction. -/
def layerA (a : Memref sig .tc .vmem S128x256 .f32) (b : Memref sig .tc .vmem S256x128 .f32) (dev : Fin 15 → Dev nD) (d : Dev nD) (v2 : BitVec 32) :
    TP F (FVec F S128x128 .f32) := do
  let w1 : Vec F S128x256 .f32 ← Prog.lift (.load a (Rect.unit (s := S128x256) ![0, 0] S128x256.size inb_S128x256_S128x256_0_0).toLoadRect (View.loadsAt_vmem h_S128x256))
  let w2 : Vec F S256x128 .f32 ← Prog.lift (.load b (Rect.unit (s := S256x128) ![0, 0] S256x128.size inb_S256x128_S256x128_0_0).toLoadRect (View.loadsAt_vmem h_S256x128))
  let x ← loadRows arg8 (k0_off4 d (BitVec.ofNat 32 (0 : Fin 16).val)) (k0_off4_inb d 0)
  forN 15 (chunk arg8 harg8 arg9 harg9 arg10 harg10 arg11 harg11 arg12 arg14 arg15 dev d (castIn w1) (castOut w2))
  waitRs arg9 harg9 arg11 harg11 arg15 d
  reduce arg9 v2 (ffn (castIn w1) (castOut w2) x)

/-- The waits for the first all-gather's copies to have left. -/
def waitAgSend0 (d : Dev nD) : TP F PUnit :=
  forN 15 fun k => Prog.lift (.waitDma2 (semSend arg13 k) (arg8.slice (rSrc d) (fun _ => rfl)) arg11 (harg8.wordExact_slice rfl _ (k0_off3_wordsbf16 d)) harg11.wordExact)

/-- The waits for a later all-gather's copies to have left. -/
def waitAgSend (d : Dev nD) : TP F PUnit :=
  forN 15 fun k => Prog.lift (.waitDma2 (semSend arg13 k) (arg8.slice (rSrc d) (fun _ => rfl)) (arg8.slice (rSrc d) (fun _ => rfl)) (harg8.wordExact_slice rfl _ (k0_off3_wordsbf16 d)) (harg8.wordExact_slice rfl _ (k0_off3_wordsbf16 d)))

/-- The layer's result, rounded, into the device's place of the gathered array. -/
def putX (d : Dev nD) (r : FVec F S128x128 .f32) : TP F PUnit := do
  let _v ← loadRows arg8 (k0_off1 d) (k0_off1_inb d)
  Prog.lift (.store arg8 (rOwn d) (roundB r) Finset.univ (View.stores_vmem h_S128x128 (harg8.storeExact_slice rfl _ (k0_off1_packedbf16 d)) (fun _ => rfl)) (.inl rfl))

/-- The waits for the layer's partial products to have left. -/
def waitRsSend (d : Dev nD) : TP F PUnit :=
  forN 15 fun k => Prog.lift (.waitDma2 (semSend arg12 k) (arg9.slice (rSrc d) (fun _ => rfl)) (arg10.slice (rCopy d k) (fun _ => rfl)) (harg9.wordExact_slice rfl _ (k0_off3_wordsbf16 d)) (harg10.wordExact_slice rfl _ (k0_off6_wordsbf16 d k)))

/-- The result: the device's own rows, then each peer's as they arrive. -/
def finish (d : Dev nD) (r : FVec F S128x128 .f32) : TP F PUnit := do
  let _v ← loadRows arg7 (k0_off1 d) (k0_off1_inb d)
  Prog.lift (.store arg7 (rOwn d) r Finset.univ (View.stores_vmem_bits_univ h_S128x128 rfl) (.inl rfl))
  forN 15 fun k => do
    waitAg arg8 harg8 arg11 harg11 arg14 d k
    let xs ← loadRows arg8 (k0_off4 d (BitVec.ofNat 32 k.succ.val)) (k0_off4_inb d k.succ)
    let _v ← loadRows arg7 (k0_off4 d (BitVec.ofNat 32 k.succ.val)) (k0_off4_inb d k.succ)
    Prog.lift (.store arg7 (rPeer d k.succ) (extf .f32 xs bitsLt_bf16_f32) Finset.univ (View.stores_vmem_bits_univ h_S128x128 rfl) (.inl rfl))

/-- The device's index along the mesh's axis, as the kernel computes it. -/
def myIx (d : Dev nD) : BitVec 32 := Scalar.remsi (Scalar.divsi (Dev.word d) 1#32) 16#32

/-- The body. -/
def prog : TP F PUnit := do
  let d : Dev nD ← Prog.lift .deviceId
  sigs d
  semWaitWord (SemArray.scalar (sig.barrier 0 rfl) : Sems sig S_).sem 15#32
  start arg0 arg8 harg8 arg11 harg11 d
  ag0 arg8 harg8 arg11 harg11 arg13 arg14 d
  let r0 ← layerA arg8 harg8 arg9 harg9 arg10 harg10 arg11 harg11 arg12 arg14 arg15 arg1 arg2 (rsDev0 d) d (myIx d)
  waitAgSend0 arg8 harg8 arg11 harg11 arg13 d
  putX arg8 harg8 d r0
  agN arg8 harg8 arg13 arg14 (agDev1 d) d
  waitRsSend arg9 harg9 arg10 harg10 arg12 d
  let r1 ← layerA arg8 harg8 arg9 harg9 arg10 harg10 arg11 harg11 arg12 arg14 arg15 arg3 arg4 (rsDev1 d) d (myIx d)
  waitAgSend arg8 harg8 arg13 d
  putX arg8 harg8 d r1
  agN arg8 harg8 arg13 arg14 (agDev2 d) d
  waitRsSend arg9 harg9 arg10 harg10 arg12 d
  let r2 ← layerA arg8 harg8 arg9 harg9 arg10 harg10 arg11 harg11 arg12 arg14 arg15 arg5 arg6 (rsDev2 d) d (myIx d)
  waitAgSend arg8 harg8 arg13 d
  putX arg8 harg8 d r2
  agN arg8 harg8 arg13 arg14 (agDev3 d) d
  waitRsSend arg9 harg9 arg10 harg10 arg12 d
  finish arg7 arg8 harg8 arg11 harg11 arg14 d r2
  waitAgSend arg8 harg8 arg13 d

theorem body_eq : cc0_body (F := F) arg0 harg0 arg1 harg1 arg2 harg2 arg3 harg3 arg4 harg4 arg5 harg5 arg6 harg6 arg7 harg7 arg8 harg8 arg9 harg9 arg10 harg10 arg11 harg11 arg12 arg13 arg14 arg15
    = prog arg0 arg1 arg2 arg3 arg4 arg5 arg6 arg7 arg8 harg8 arg9 harg9 arg10 harg10 arg11 harg11 arg12 arg13 arg14 arg15 := by
  chain_rfl

end Body

end Cert.Proof.KI

end
-- ==== Proof.Ideal.Tables.lean ====
/- For `KernelIdeal`, the program of the claims over the extended reals; the text is that of the module of the same name
   for `Kernel`.
   The protocol's vocabulary: the devices' cyclic order, the semaphores the devices share and their numbering, the
   blocks of rows, the debts a device starts with, and the closed forms of the offsets and devices as printed. -/
module

public import proofs.«01_k».proof.Proof.Ideal.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Peers -/

set_option backward.proofsInPublic true in
/-- The `k`-th peer of `c`: the device `k + 1` places after it. -/
def pr (c : Dev nD) (k : Fin 15) : Dev nD := ⟨(c.val + k.val + 1) % 16, Nat.mod_lt _ (by decide)⟩

theorem pr_ne (c : Dev nD) (k : Fin 15) : pr c k ≠ c := by revert c k; decide +kernel
theorem ne_pr (c : Dev nD) (k : Fin 15) : c ≠ pr c k := (pr_ne c k).symm
theorem pr_inj (c : Dev nD) {k k' : Fin 15} (h : pr c k = pr c k') : k = k' := by
  revert h; revert c k k'; decide +kernel
/-- `c` is a peer of its `k`-th peer: the one as far from the other end. -/
theorem pr_rev (c : Dev nD) (k : Fin 15) : pr (pr c k.rev) k = c := by revert c k; decide +kernel
theorem rev_pr (c : Dev nD) (k : Fin 15) : pr (pr c k) k.rev = c := by revert c k; decide +kernel
theorem pr_surj : ∀ c s : Dev nD, s ≠ c → ∃ k, pr c k = s := by decide +kernel

/-- The other devices are the fifteen peers. -/
theorem erase_eq (c : Dev nD) : (Finset.univ.erase c : Finset (Dev nD)) = Finset.univ.map ⟨pr c, fun _ _ h => pr_inj c h⟩ := by
  ext s
  rw [Finset.mem_erase, Finset.mem_map]
  constructor
  · intro h
    obtain ⟨k, hk⟩ := pr_surj c s h.1
    exact ⟨k, Finset.mem_univ _, hk⟩
  · rintro ⟨k, -, rfl⟩
    exact ⟨pr_ne c k, Finset.mem_univ _⟩

/-- One conjunct per other device is one per peer. -/
theorem bigSep_peers {M : Type} [URA M] (c : Dev nD) (Φ : Dev nD → sProp M) :
    bigSep (Finset.univ.erase c) Φ = bigSep Finset.univ fun k : Fin 15 => Φ (pr c k) := by
  rw [erase_eq, bigSep_map]; rfl

/-- One conjunct per device is the device's own and one per peer. -/
theorem bigSep_all {M : Type} [URA M] (c : Dev nD) (Φ : Dev nD → sProp M) :
    bigSep Finset.univ Φ = iprop(Φ c ∗ bigSep Finset.univ fun k : Fin 15 => Φ (pr c k)) := by
  rw [bigSep_univ_at _ c, bigSep_peers]

/-! ## The buffers -/

abbrev xgM : Memref sig .tc .vmem S2048x128 .bf16 := Memref.whole cc0_scratch0
abbrev rsM : Memref sig .tc .vmem S2048x128 .bf16 := Memref.whole cc0_scratch1
abbrev pbM : Memref sig .tc .vmem S2048x128 .bf16 := Memref.whole cc0_scratch2
abbrev xbM : Memref sig .tc .vmem S128x128 .bf16 := Memref.whole cc0_scratch3
abbrev outM : Memref sig .tc .vmem S2048x128 .f32 := Memref.whole cc0_stg7_0

/-- The `s`-th block of rows of a 2048×128 memref. -/
abbrev blk {e : EltTy} (m : Memref sig .tc .vmem S2048x128 e) (s : Fin 16) : Memref sig .tc .vmem S128x128 e :=
  m.slice (rRow s) (fun _ => rfl)

/-- A slice of 128 rows at an offset that is a block's is that block. -/
theorem slice_eq {e : EltTy} (m : Memref sig .tc .vmem S2048x128 e) (s : Fin 16) {off : Fin 2 → Nat}
    (h : ∀ a, off a + S128x128.size a ≤ S2048x128.size a) (hoff : off = ![128 * s.val, 0]) :
    (m.slice (Rect.unit (s := S2048x128) off S128x128.size h) (fun _ => rfl) : Memref sig .tc .vmem S128x128 e) = blk m s := by
  subst hoff; rfl

theorem src_eq {e : EltTy} (m : Memref sig .tc .vmem S2048x128 e) (d : Dev nD) :
    (m.slice (rSrc d) (fun _ => rfl) : Memref sig .tc .vmem S128x128 e) = blk m d := slice_eq m d _ (k0_off3_eq d)
theorem copy_off (d : Dev nD) (k : Fin 15) : k0_off6 d (BitVec.ofNat 32 (1 + k.val)) = ![128 * (pr d k).val, 0] := k0_off6_eq d k
theorem copy_eq {e : EltTy} (m : Memref sig .tc .vmem S2048x128 e) (d : Dev nD) (k : Fin 15) :
    (m.slice (rCopy d k) (fun _ => rfl) : Memref sig .tc .vmem S128x128 e) = blk m (pr d k) := slice_eq m _ _ (copy_off d k)
theorem peer_off (d : Dev nD) (k : Fin 15) : k0_off4 d (BitVec.ofNat 32 k.succ.val) = ![128 * (pr d k).val, 0] := k0_off4_eq d k.succ
theorem own_off (d : Dev nD) : k0_off4 d (BitVec.ofNat 32 (0 : Fin 16).val) = ![128 * d.val, 0] :=
  (k0_off4_eq d 0).trans (by
    show ![128 * ((d.val + 0) % 16), 0] = ![128 * d.val, 0]
    rw [Nat.add_zero, Nat.mod_eq_of_lt d.isLt])

/-! ## The devices addressed -/

theorem barDev_eq (d : Dev nD) : ∀ k, barDev d k = pr d k := by
  intro k
  refine Fin.ext ?_
  fin_cases k
  exacts [k0_dev1_eq d, k0_dev2_eq d, k0_dev3_eq d, k0_dev4_eq d, k0_dev5_eq d, k0_dev6_eq d, k0_dev7_eq d, k0_dev8_eq d, k0_dev9_eq d, k0_dev10_eq d, k0_dev11_eq d, k0_dev12_eq d, k0_dev13_eq d, k0_dev14_eq d, k0_dev15_eq d]
theorem agDev0_eq (d : Dev nD) : ∀ k, agDev0 d k = pr d k := by
  intro k
  refine Fin.ext ?_
  fin_cases k
  exacts [k0_dev16_eq d, k0_dev17_eq d, k0_dev18_eq d, k0_dev19_eq d, k0_dev20_eq d, k0_dev21_eq d, k0_dev22_eq d, k0_dev23_eq d, k0_dev24_eq d, k0_dev25_eq d, k0_dev26_eq d, k0_dev27_eq d, k0_dev28_eq d, k0_dev29_eq d, k0_dev30_eq d]
theorem agDev1_eq (d : Dev nD) : ∀ k, agDev1 d k = pr d k := by
  intro k
  refine Fin.ext ?_
  fin_cases k
  exacts [k0_dev46_eq d, k0_dev47_eq d, k0_dev48_eq d, k0_dev49_eq d, k0_dev50_eq d, k0_dev51_eq d, k0_dev52_eq d, k0_dev53_eq d, k0_dev54_eq d, k0_dev55_eq d, k0_dev56_eq d, k0_dev57_eq d, k0_dev58_eq d, k0_dev59_eq d, k0_dev60_eq d]
theorem agDev2_eq (d : Dev nD) : ∀ k, agDev2 d k = pr d k := by
  intro k
  refine Fin.ext ?_
  fin_cases k
  exacts [k0_dev76_eq d, k0_dev77_eq d, k0_dev78_eq d, k0_dev79_eq d, k0_dev80_eq d, k0_dev81_eq d, k0_dev82_eq d, k0_dev83_eq d, k0_dev84_eq d, k0_dev85_eq d, k0_dev86_eq d, k0_dev87_eq d, k0_dev88_eq d, k0_dev89_eq d, k0_dev90_eq d]
theorem agDev3_eq (d : Dev nD) : ∀ k, agDev3 d k = pr d k := by
  intro k
  refine Fin.ext ?_
  fin_cases k
  exacts [k0_dev106_eq d, k0_dev107_eq d, k0_dev108_eq d, k0_dev109_eq d, k0_dev110_eq d, k0_dev111_eq d, k0_dev112_eq d, k0_dev113_eq d, k0_dev114_eq d, k0_dev115_eq d, k0_dev116_eq d, k0_dev117_eq d, k0_dev118_eq d, k0_dev119_eq d, k0_dev120_eq d]
theorem rsDev0_eq (d : Dev nD) : ∀ k, rsDev0 d k = pr d k := by
  intro k
  refine Fin.ext ?_
  fin_cases k
  exacts [k0_dev31_eq d, k0_dev32_eq d, k0_dev33_eq d, k0_dev34_eq d, k0_dev35_eq d, k0_dev36_eq d, k0_dev37_eq d, k0_dev38_eq d, k0_dev39_eq d, k0_dev40_eq d, k0_dev41_eq d, k0_dev42_eq d, k0_dev43_eq d, k0_dev44_eq d, k0_dev45_eq d]
theorem rsDev1_eq (d : Dev nD) : ∀ k, rsDev1 d k = pr d k := by
  intro k
  refine Fin.ext ?_
  fin_cases k
  exacts [k0_dev61_eq d, k0_dev62_eq d, k0_dev63_eq d, k0_dev64_eq d, k0_dev65_eq d, k0_dev66_eq d, k0_dev67_eq d, k0_dev68_eq d, k0_dev69_eq d, k0_dev70_eq d, k0_dev71_eq d, k0_dev72_eq d, k0_dev73_eq d, k0_dev74_eq d, k0_dev75_eq d]
theorem rsDev2_eq (d : Dev nD) : ∀ k, rsDev2 d k = pr d k := by
  intro k
  refine Fin.ext ?_
  fin_cases k
  exacts [k0_dev91_eq d, k0_dev92_eq d, k0_dev93_eq d, k0_dev94_eq d, k0_dev95_eq d, k0_dev96_eq d, k0_dev97_eq d, k0_dev98_eq d, k0_dev99_eq d, k0_dev100_eq d, k0_dev101_eq d, k0_dev102_eq d, k0_dev103_eq d, k0_dev104_eq d, k0_dev105_eq d]

/-! ## The semaphores -/

/-- A kernel's own semaphores: by the copy they say has left (`rsS`, `agS`: the reduce-scatter's and the all-gather's
    copy to the `k`-th peer) or the device whose copy has landed (`ag`, `rs`). -/
abbrev OK : Type := (Fin 15 ⊕ Fin 15) ⊕ (Fin 16 ⊕ Fin 16)
/-- All the semaphores of the protocol: the runtime's barrier semaphore and those. -/
abbrev CK : Type := Unit ⊕ OK

abbrev bar : CK := .inl ()
abbrev rsS (k : Fin 15) : CK := .inr (.inl (.inl k))
abbrev agS (k : Fin 15) : CK := .inr (.inl (.inr k))
abbrev ag (s : Dev nD) : CK := .inr (.inr (.inl s))
abbrev rs (s : Dev nD) : CK := .inr (.inr (.inr s))

/-- The runtime's barrier semaphore. -/
abbrev barS : Sem sig := (SemArray.scalar (sig.barrier 0 rfl) : Sems sig S_).sem

set_option backward.proofsInPublic true in
/-- A kernel's own semaphores as the signature numbers them. -/
def oloc : OK → SemLoc sig
  | .inl (.inl k) => .dma (⟨8 + k.val, by have := k.isLt; show _ < 70; omega⟩ : Fin 70)
  | .inl (.inr k) => .dma (⟨23 + k.val, by have := k.isLt; show _ < 70; omega⟩ : Fin 70)
  | .inr (.inl s) => .dma (⟨38 + s.val, by have := s.isLt; show _ < 70; omega⟩ : Fin 70)
  | .inr (.inr s) => .dma (⟨54 + s.val, by have := s.isLt; show _ < 70; omega⟩ : Fin 70)

/-- All of them. -/
def loc : CK → SemLoc sig
  | .inl _ => .reg barS
  | .inr k => oloc k

theorem loc_inj : Function.Injective loc := by
  rintro (⟨⟩ | (k | k) | (k | k)) (⟨⟩ | (k' | k') | (k' | k')) h
  all_goals first
    | rfl
    | (exfalso; simp only [loc, oloc] at h; cases h; done)
    | (simp only [loc, oloc, SemLoc.dma.injEq, Fin.mk.injEq] at h
       have := k.isLt; have := k'.isLt
       first
         | (exfalso; omega)
         | (have e : k = k' := Fin.ext (by omega)
            rw [e]))

theorem loc_bar : loc bar = .reg barS := rfl
theorem loc_ag (d : Dev nD) : loc (ag d) = .dma (semOwn cc0_scratch6 d) := by revert d; decide +kernel
theorem loc_rs (d : Dev nD) : loc (rs d) = .dma (semOwn cc0_scratch7 d) := by revert d; decide +kernel
theorem loc_agPeer (d : Dev nD) (k : Fin 15) : loc (ag (pr d k)) = .dma (semPeer cc0_scratch6 d k) := by revert d k; decide +kernel
theorem loc_rsPeer (d : Dev nD) (k : Fin 15) : loc (rs (pr d k)) = .dma (semPeer cc0_scratch7 d k) := by revert d k; decide +kernel
theorem loc_agS (k : Fin 15) : loc (agS k) = .dma (semSend cc0_scratch5 k) := by revert k; decide +kernel
theorem loc_rsS (k : Fin 15) : loc (rsS k) = .dma (semSend cc0_scratch4 k) := by revert k; decide +kernel

/-- A device's cell of a semaphore of the protocol. -/
abbrev kcell (c : Dev nD) (k : CK) : GSem nD τ sig := ((c : Thread nD τ), loc k)

theorem kcell_inj : Function.Injective (fun p : Dev nD × CK => kcell p.1 p.2) := by
  rintro ⟨c, k⟩ ⟨c', k'⟩ h
  have h1 : c = c' := congrArg (fun g : GSem nD τ sig => g.1.1) h
  have h2 : k = k' := loc_inj (congrArg Prod.snd h)
  rw [h1, h2]

/-- Which semaphore of the protocol one is, if any. -/
def kindOf (s : SemLoc sig) : Option CK := Function.partialInv loc s
theorem kindOf_loc (k : CK) : kindOf (loc k) = some k := Function.partialInv_left loc_inj k
theorem kindOf_some {s : SemLoc sig} {k : CK} (h : kindOf s = some k) : loc k = s :=
  (Function.partialInv_of_injective loc_inj k s).mp h

/-- What one copy of a block credits. -/
@[irreducible] def N : ℕ := sig.dmaCredit .tc (Kind.tc.table .vmem) (8 : Fin 12) S128x128 .bf16

end Cert.Proof.KI

end
-- ==== Proof.Ideal.Proto.lean ====
/- For `KernelIdeal`, the program of the claims over the extended reals; the text is that of the module of the same name
   for `Kernel`.
   The protocol: what each device computes, the rounds of every semaphore with what each hands over, the levels that
   order the waits, and the debts. -/
module

public import proofs.«01_k».proof.Proof.Ideal.Tables

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Values -/

variable (F) in
/-- The inputs, device by device: the blocks of rows, and each layer's two weights. -/
structure Ins where
  x : Dev nD → Vec F S128x128 .f32
  w1 : ℕ → Dev nD → Vec F S128x256 .f32
  w2 : ℕ → Dev nD → Vec F S256x128 .f32

namespace Ins

variable (I : Ins F)

/-- Device `c`'s partial product in layer `l` of the rows `X`. -/
def part (l : ℕ) (c : Dev nD) (X : Vec F S128x128 .bf16) : FVec F S128x128 .f32 := ffn (castIn (I.w1 l c)) (castOut (I.w2 l c)) X

/-- One step of the reduction on device `c`: device `s`'s block added, the device's own skipped. -/
def addIf (c : Dev nD) (acc : FVec F S128x128 .f32) (s : Dev nD) (v : Vec F S128x128 .bf16) : FVec F S128x128 .f32 :=
  if s = c then acc else addf acc (extf .f32 v bitsLt_bf16_f32)

/-- The reduction on device `c` of its own product and the blocks `P`. -/
def redOf (c : Dev nD) (own : FVec F S128x128 .f32) (P : Dev nD → Vec F S128x128 .bf16) : FVec F S128x128 .f32 :=
  (List.finRange 16).foldl (fun acc s => addIf c acc s (P s)) own

/-- Device `c`'s rows before layer `l`, as every device holds them. -/
def X : ℕ → Dev nD → Vec F S128x128 .bf16
  | 0, c => castX (I.x c)
  | l + 1, c => roundB (redOf c (I.part l c (X l c)) (fun s => roundB (I.part l s (X l c))))

/-- Device `c`'s sum in layer `l`, before it is rounded. -/
def red (l : ℕ) (c : Dev nD) : FVec F S128x128 .f32 := redOf c (I.part l c (I.X l c)) (fun s => roundB (I.part l s (I.X l c)))

theorem X_succ (l : ℕ) (c : Dev nD) : I.X (l + 1) c = roundB (I.red l c) := rfl

/-- What device `c` sends device `s` in layer `l`: its partial product of `s`'s rows, rounded. -/
def P (l : ℕ) (c s : Dev nD) : Vec F S128x128 .bf16 := roundB (I.part l c (I.X l s))

/-- The blocks of rows of device `c`'s result: its own sum, and the others' rows. -/
def out (c s : Dev nD) : Vec F S128x128 .f32 := if s = c then I.red 2 c else extf .f32 (I.X 3 s) bitsLt_bf16_f32

end Ins

/-! ## The resource algebra -/

abbrev UB : Type := URounds (GSem nD τ sig) (Dev nD)
abbrev UU : Type := UR sig nD τ × UB

local notation "𝕄" => MT nD τ sig ℕ (Elt F) ℕ UU ℕ

variable (F) in
/-- An assertion about the machine running the kernel at float values `F`. -/
abbrev SP : Type := sProp (MT nD τ sig ℕ (Elt F) ℕ UU ℕ)

abbrev EP : Emb (UR sig nD τ) (MT nD τ sig ℕ (Elt F) ℕ UU ℕ) := embL
abbrev ER : Emb UB (MT nD τ sig ℕ (Elt F) ℕ UU ℕ) := embR

/-! ## Holdings -/

/-- Device `c` holds the `s`-th block of rows of `m` at contents `X`. -/
def row (c : Dev nD) {e : EltTy} (m : Memref sig .tc .vmem S2048x128 e) (s : Dev nD) (X : Vec F S128x128 e) : SP F :=
  owns (c : Thread nD τ) (blk m s) fullShare X
/-- The same at some contents. -/
def rowAny (c : Dev nD) {e : EltTy} (m : Memref sig .tc .vmem S2048x128 e) (s : Dev nD) : SP F := iprop(∃ X, row (F := F) c m s X)

instance row_storable (c : Dev nD) {e : EltTy} (m : Memref sig .tc .vmem S2048x128 e) (s : Dev nD) (X : Vec F S128x128 e) :
    BI.Storable (upEmb : UEmb _ 𝕄) (row (F := F) c m s X) := by unfold row; infer_instance
instance rowAny_storable (c : Dev nD) {e : EltTy} (m : Memref sig .tc .vmem S2048x128 e) (s : Dev nD) :
    BI.Storable (upEmb : UEmb _ 𝕄) (rowAny (F := F) c m s) := by unfold rowAny; infer_instance

/-- What is left of a full share after `i` copies have each taken a part. -/
def rest : ℕ → PosShare TreeShare
  | 0 => fullShare
  | i + 1 => (rest i).right
/-- The part the `i`-th copy takes. -/
def part (i : ℕ) : PosShare TreeShare := (rest i).left

/-- The part of the source the `k`-th copy of all-gather phase `p` holds while in flight. -/
def agSrc (I : Ins F) (c : Dev nD) (p : ℕ) (k : Fin 15) : SP F :=
  if p = 0 then owns (c : Thread nD τ) xbM (part k.val) (I.X 0 c) else owns (c : Thread nD τ) (blk xgM c) (part k.val) (I.X p c)

instance agSrc_storable (I : Ins F) (c : Dev nD) (p : ℕ) (k : Fin 15) : BI.Storable (upEmb : UEmb _ 𝕄) (agSrc (F := F) I c p k) := by
  unfold agSrc; split <;> infer_instance

/-! ## The rounds -/

/-- Who pays in round `r` of device `c`'s semaphore `k`: every other device on the barrier; the device itself on its send
    semaphores; on a receive semaphore the device it is for, if another. -/
def dutyF (c : Dev nD) (k : CK) (r : ℕ) : Finset (Dev nD) := match k with
  | .inl _ => if r = 0 then Finset.univ.erase c else ∅
  | .inr (.inl (.inl _)) => if r < 3 then {c} else ∅
  | .inr (.inl (.inr _)) => if r < 4 then {c} else ∅
  | .inr (.inr (.inl s)) => if s ≠ c ∧ r < 4 then {s} else ∅
  | .inr (.inr (.inr s)) => if s ≠ c ∧ r < 3 then {s} else ∅

/-- How much each payment is. -/
def amtF (k : CK) : ℕ := match k with
  | .inl _ => 1
  | .inr _ => N

/-- The place device `s` opens for `d`'s partial product with its all-gather copy of phase `p`, when a layer follows. -/
def rsSlot (F : FTy → Type) [FloatOps F] (s d : Dev nD) (p : ℕ) : SP F :=
  if p < 3 then iprop(rowAny (F := F) s rsM d ∗ reached ER (kcell s (rs d)) p) else iprop(emp)

instance rsSlot_storable (s d : Dev nD) (p : ℕ) : BI.Storable (upEmb : UEmb _ 𝕄) (rsSlot F s d p) := by
  unfold rsSlot; split <;> infer_instance

/-- What device `d`'s payment in round `r` of device `c`'s semaphore `k` hands over. Barrier: `d`'s place for `c`'s rows.
    All-gather: `d`'s rows landed, and `d`'s place for `c`'s partial product. Reduce-scatter: `d`'s partial product landed,
    and `d`'s place for `c`'s next rows. Send semaphores: the source. -/
def payF (I : Ins F) (c : Dev nD) (k : CK) (r : ℕ) (d : Dev nD) : SP F := match k with
  | .inl _ => rowAny (F := F) d xgM c
  | .inr (.inl (.inl k)) => row (F := F) c pbM (pr c k) (I.P r c (pr c k))
  | .inr (.inl (.inr k)) => agSrc I c r k
  | .inr (.inr (.inl s)) => iprop(row (F := F) c xgM s (I.X r s) ∗ rsSlot F s c r)
  | .inr (.inr (.inr s)) => iprop(row (F := F) c rsM s (I.P r s c) ∗ rowAny (F := F) s xgM c ∗ reached ER (kcell s (ag c)) (r + 1))

instance payF_storable (I : Ins F) (c : Dev nD) (k : CK) (r : ℕ) (d : Dev nD) : BI.Storable (upEmb : UEmb _ 𝕄) (payF (F := F) I c k r d) := by
  rcases k with ⟨⟩ | (k | k) | (k | k) <;> unfold payF <;> infer_instance

theorem N_pos : 0 < N := by unfold N; decide +kernel

/-- The rounds of every semaphore. -/
def sched (I : Ins F) : Rounds.Schedule (GSem nD τ sig) (Dev nD) 𝕄 where
  duties g r := (kindOf g.2).elim ∅ fun k => dutyF g.1.1 k r
  unitless _ := False
  amount g _ _ := (kindOf g.2).elim 1 amtF
  payload g r d := (kindOf g.2).elim iprop(emp) fun k => payF I g.1.1 k r d
  amount_pos g _ _ _ := by
    rcases kindOf g.2 with _ | (⟨⟩ | k)
    · exact Nat.one_pos
    · exact Nat.one_pos
    · exact N_pos

instance sched_storable (I : Ins F) (g : GSem nD τ sig) (r : ℕ) (d : Dev nD) :
    BI.Storable (upEmb : UEmb _ 𝕄) ((sched (F := F) I).payload g r d) := by
  show BI.Storable upEmb ((kindOf g.2).elim (iprop(emp) : SP F) fun k => payF I g.1.1 k r d)
  rcases kindOf g.2 with _ | k
  · show BI.Storable upEmb (iprop(emp) : SP F); infer_instance
  · show BI.Storable upEmb (payF (F := F) I g.1.1 k r d); infer_instance

section Sched
variable (I : Ins F) (c : Dev nD) (k : CK) (r : ℕ) (d : Dev nD)

theorem duties_eq : (sched I).duties (kcell c k) r = dutyF c k r := by
  show (kindOf (loc k)).elim ∅ _ = _; rw [kindOf_loc]; rfl
theorem amount_eq : (sched I).amount (kcell c k) r d = amtF k := by
  show (kindOf (loc k)).elim 1 _ = _; rw [kindOf_loc]; rfl
theorem payload_eq : (sched I).payload (kcell c k) r d = payF I c k r d := by
  show (kindOf (loc k)).elim _ _ = _; rw [kindOf_loc]; rfl
theorem expect_eq : (sched I).expect (kcell c k) r = (dutyF c k r).card * amtF k := by
  unfold Schedule.expect Schedule.amountOf
  rw [duties_eq, Finset.sum_congr rfl fun d _ => amount_eq I c k r d, Finset.sum_const, smul_eq_mul]

end Sched

/-- No payment is due after the fourth round. -/
theorem dutyF_later (c : Dev nD) (k : CK) (r : ℕ) (h : 4 ≤ r) : dutyF c k r = ∅ := by
  rcases k with ⟨⟩ | (k | k) | (k | k) <;> simp only [dutyF]
  · exact if_neg (by omega)
  · exact if_neg (by omega)
  · exact if_neg (by omega)
  · exact if_neg (by omega)
  · exact if_neg (by omega)

/-! ## Levels and debts -/

/-- The level of round `r` of semaphore `k`: the barrier lowest, then the phases in order. -/
def lvF (k : CK) (r : ℕ) : ℕ := match k with
  | .inl _ => 1
  | .inr (.inl (.inl _)) => 3 + 2 * r
  | .inr (.inl (.inr _)) => 2 + 2 * r
  | .inr (.inr (.inl _)) => 2 + 2 * r
  | .inr (.inr (.inr _)) => 3 + 2 * r

theorem lvF_pos (k : CK) (r : ℕ) : 0 < lvF k r := by
  rcases k with ⟨⟩ | (k | k) | (k | k) <;> simp only [lvF] <;> omega

/-- The level of every semaphore: those of the pipeline lowest. -/
def lv (g : GSem nD τ sig) (r : ℕ) : ℕ := (kindOf g.2).elim 0 fun k => lvF k r
def L (g : GSem nD τ sig) : Finset ℕ := if g.1.2 = .tc then Finset.range 4 else ∅

theorem L_of_ne (g : GSem nD τ sig) (h : g.1.2 ≠ .tc) : L g = ∅ := if_neg h
theorem mem_L (c : Dev nD) (sm : SemLoc sig) {r : ℕ} (h : r < 4) : r ∈ L ((c : Thread nD τ), sm) := by
  unfold L; rw [if_pos rfl]; exact Finset.mem_range.mpr h
theorem lv_eq (c : Dev nD) (k : CK) (r : ℕ) : lv (kcell c k) r = lvF k r := by
  show (kindOf (loc k)).elim 0 _ = _; rw [kindOf_loc]; rfl

/-- One debt: a payment to device `dev`'s semaphore `k` in round `r`. -/
structure Debt where
  dev : Dev nD
  k : CK
  r : ℕ

def Debt.tally (x : Debt) : CellTallies nD τ sig ℕ := tallyAt (kcell x.dev x.k) x.r (amtF x.k)

/-- What a list of debts comes to. -/
def owed (l : List Debt) : CellTallies nD τ sig ℕ := (l.map Debt.tally).sum

theorem owed_nil : owed [] = 0 := rfl
theorem owed_cons (x : Debt) (l : List Debt) : owed (x :: l) = owed l + x.tally := by
  unfold owed; rw [List.map_cons, List.sum_cons, add_comm]
theorem owed_append (l l' : List Debt) : owed (l ++ l') = owed l + owed l' := by
  unfold owed; rw [List.map_append, List.sum_append]

/-- All the debts are above level `m`. -/
def Above (m : ℕ) (l : List Debt) : Prop := ∀ x ∈ l, m < lvF x.k x.r ∧ x.r < 4

theorem Above.append {m : ℕ} {l l' : List Debt} (h : Above m l) (h' : Above m l') : Above m (l ++ l') :=
  fun x hx => (List.mem_append.mp hx).elim (h x) (h' x)
theorem Above.nil (m : ℕ) : Above m [] := fun x hx => absurd hx List.not_mem_nil
theorem Above.mono {m m' : ℕ} {l : List Debt} (h : Above m l) (hm : m' ≤ m) : Above m' l :=
  fun x hx => ⟨lt_of_le_of_lt hm (h x hx).1, (h x hx).2⟩

theorem owed_pos {l : List Debt} {g : GSem nD τ sig} {i : ℕ} (h : 0 < owed l g i) : ∃ x ∈ l, g = kcell x.dev x.k ∧ i = x.r := by
  induction l with
  | nil => exact absurd h (Nat.lt_irrefl 0)
  | cons x l ih =>
    rw [owed_cons, Pi.add_apply, Finsupp.add_apply] at h
    by_cases h' : 0 < owed l g i
    · obtain ⟨y, hy, hg⟩ := ih h'; exact ⟨y, List.mem_cons_of_mem _ hy, hg⟩
    · rw [Nat.eq_zero_of_not_pos h', Nat.zero_add] at h
      exact ⟨x, List.mem_cons_self, Pipeline.tallyAt_pos h⟩

/-- A device may wait on a semaphore below everything it owes. -/
theorem mayWait (c : Dev nD) (sm : SemLoc sig) (r : ℕ) (hr : r < 4) (m : ℕ) (hm : lv ((c : Thread nD τ), sm) r ≤ m) (l : List Debt) (h : Above m l) :
    (levAts L lv : SP F) ⊢ MayWait (c : Thread nD τ) sm r (owed l) := by
  refine MayOwe.of_cut (L := L) (lev := lv) m (fun p hp => by rw [Finset.mem_singleton.mp hp]; exact mem_L c sm hr)
    (fun g i hg => ?_) (fun p hp => by rw [Finset.mem_singleton.mp hp]; exact hm) (fun g i hg => ?_)
  · obtain ⟨x, hx, rfl, rfl⟩ := owed_pos hg; exact mem_L _ _ (h x hx).2
  · obtain ⟨x, hx, rfl, rfl⟩ := owed_pos hg; rw [lv_eq]; exact (h x hx).1

/-- The debts of the handshake, of all-gather phase `p`, of the reduce-scatter of layer `l`. -/
def barD (c : Dev nD) : List Debt := List.ofFn fun k : Fin 15 => ⟨pr c k, bar, 0⟩
def agD (c : Dev nD) (p : ℕ) : List Debt := List.ofFn fun k : Fin 15 => ⟨pr c k, ag c, p⟩
def rsD (c : Dev nD) (l : ℕ) : List Debt := List.ofFn fun k : Fin 15 => ⟨pr c k, rs c, l⟩

/-- What a device still owes when layer `l` starts. -/
def tailD (c : Dev nD) : ℕ → List Debt
  | 0 => rsD c 0 ++ (agD c 1 ++ (rsD c 1 ++ (agD c 2 ++ (rsD c 2 ++ (agD c 3 ++ [])))))
  | 1 => rsD c 1 ++ (agD c 2 ++ (rsD c 2 ++ (agD c 3 ++ [])))
  | 2 => rsD c 2 ++ (agD c 3 ++ [])
  | _ => []

theorem tailD_eq (c : Dev nD) (l : ℕ) (hl : l < 3) : tailD c l = rsD c l ++ (agD c (l + 1) ++ tailD c (l + 1)) := by
  rcases l with _ | _ | _ | l
  · rfl
  · rfl
  · rfl
  · omega

/-- What a device owes at launch. -/
def allD (c : Dev nD) : List Debt := barD c ++ (agD c 0 ++ tailD c 0)

theorem above_ag (c : Dev nD) (p m : ℕ) (hp : p < 4) (h : m < 2 + 2 * p) : Above m (agD c p) := fun x hx => by
  obtain ⟨k, rfl⟩ := List.mem_ofFn.mp hx; exact ⟨h, hp⟩
theorem above_rs (c : Dev nD) (l m : ℕ) (hp : l < 3) (h : m < 3 + 2 * l) : Above m (rsD c l) := fun x hx => by
  obtain ⟨k, rfl⟩ := List.mem_ofFn.mp hx; exact ⟨h, Nat.lt_succ_of_lt hp⟩
theorem above_tail (c : Dev nD) (l m : ℕ) (h : m < 3 + 2 * l) : Above m (tailD c l) := by
  rcases l with _ | _ | _ | l
  · exact (above_rs c 0 m (by omega) (by omega)).append <| (above_ag c 1 m (by omega) (by omega)).append <|
      (above_rs c 1 m (by omega) (by omega)).append <| (above_ag c 2 m (by omega) (by omega)).append <|
      (above_rs c 2 m (by omega) (by omega)).append <| (above_ag c 3 m (by omega) (by omega)).append (Above.nil m)
  · exact (above_rs c 1 m (by omega) (by omega)).append <| (above_ag c 2 m (by omega) (by omega)).append <|
      (above_rs c 2 m (by omega) (by omega)).append <| (above_ag c 3 m (by omega) (by omega)).append (Above.nil m)
  · exact (above_rs c 2 m (by omega) (by omega)).append <| (above_ag c 3 m (by omega) (by omega)).append (Above.nil m)
  · exact Above.nil m

end Cert.Proof.KI

end
-- ==== Proof.Ideal.Steps.lean ====
/- For `KernelIdeal`, the program of the claims over the extended reals; the text is that of the module of the same name
   for `Kernel`.
   One effect at a time: the loads and stores of blocks, the waits, the copies and the signals, over the protocol. -/
module

public import proofs.«01_k».proof.Proof.Ideal.Proto

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The weakest precondition of a program of device `c`. -/
abbrev WP (c : Dev nD) {α : Type} (p : TP F α) (Q : α → SP F) : SP F :=
  wp frame (wpE (defs₀ (F := F)) Variants.none (c : Thread nD τ) none) Set.univ p Q

theorem WP_ret (c : Dev nD) {α : Type} (a : α) (Q : α → SP F) : WP c (.ret a) Q = iprop(|={Set.univ}=> Q a) := by simp only [wp_ret]
theorem WP_bind (c : Dev nD) {α β : Type} (p : TP F α) (k : α → TP F β) (Q : β → SP F) :
    WP c (p >>= k) Q = WP c p fun a => WP c (k a) Q := by simp only [wp_bind]

/-- Device `c` owes the debts `l`. -/
def owesE (c : Dev nD) (l : List Debt) : SP F := iprop(∃ W, owes (c : Thread nD τ) (owed l) W)

/-- Device `c` is at the start of round `r` of its semaphore `k`. -/
def posn (c : Dev nD) (k : CK) (r : ℕ) : SP F := iprop(atPos ER (kcell c k) r ∅ 0 ∗ reached ER (kcell c k) r)

/-- The right to wait for one payment of round `r` of device `c`'s semaphore `k`. -/
def due (c : Dev nD) (k : CK) (r : ℕ) : SP F := cred (tallyAt (kcell c k) r (amtF k))

/-- What all devices share: every semaphore's rounds, and the levels. -/
def ctx (I : Ins F) (K : Dev nD × CK → ℕ) : SP F :=
  iprop((bigSep Finset.univ fun p : Dev nD × CK => cellInv ER (sched I) (K p) (kcell p.1 p.2))
    ∗ (bigSep Finset.univ fun p : Dev nD × CK => reached ER (kcell p.1 p.2) 0) ∗ levAts L lv)

instance ctx_persistent (I : Ins F) (K : Dev nD × CK → ℕ) : BI.Persistent (ctx I K) := by unfold ctx; infer_instance

section Ctx
variable (I : Ins F) (K : Dev nD × CK → ℕ)

theorem ctx_inv (c : Dev nD) (k : CK) : ctx I K ⊢ cellInv ER (sched I) (K (c, k)) (kcell c k) :=
  (show ctx I K ⊢ (bigSep Finset.univ fun p : Dev nD × CK => cellInv ER (sched I) (K p) (kcell p.1 p.2) : SP F) from by
    unfold ctx; iintro ⟨H, -, -⟩; iexact H).trans (bigSep_elim (i := (c, k)) (Finset.mem_univ _))
theorem ctx_reached (c : Dev nD) (k : CK) : ctx I K ⊢ (reached ER (kcell c k) 0 : SP F) :=
  (show ctx I K ⊢ (bigSep Finset.univ fun p : Dev nD × CK => reached ER (kcell p.1 p.2) 0 : SP F) from by
    unfold ctx; iintro ⟨-, H, -⟩; iexact H).trans (bigSep_elim (i := (c, k)) (Finset.mem_univ _))
theorem ctx_lev : ctx I K ⊢ (levAts L lv : SP F) := by
  unfold ctx; iintro ⟨-, -, H⟩; iexact H
theorem ctx_mayWait (c : Dev nD) (k : CK) (r : ℕ) (hr : r < 4) (l : List Debt) (h : Above (lvF k r) l) :
    ctx I K ⊢ (MayWait (c : Thread nD τ) (loc k) r (owed l) : SP F) := by
  have hm : lv ((c : Thread nD τ), loc k) r ≤ lvF k r := by
    have := lv_eq c k r
    unfold kcell at this
    rw [this]
  have h2 := mayWait (F := F) c (loc k) r hr (lvF k r) hm l h
  have h3 := @ctx_lev F _ I K
  refine h3.trans ?_
  exact h2

end Ctx

/-! ## Loads and stores -/

/-- A load of a block held at any share reads its contents. -/
theorem load_blk (c : Dev nD) {e : EltTy} (m : Memref sig .tc .vmem S2048x128 e) (s : Fin 16) {q : PosShare TreeShare} {X : Vec F S128x128 e}
    {off : Fin 2 → Nat} {h : ∀ a, off a + S128x128.size a ≤ S2048x128.size a} (hoff : off = ![128 * s.val, 0]) (Q : Vec F S128x128 e → SP F) :
    (owns (c : Thread nD τ) (blk m s) q X : SP F) ⊢ iprop((owns (c : Thread nD τ) (blk m s) q X -∗ Q X) -∗ WP c (loadRows m off h) Q) := by
  subst hoff
  unfold owns
  iintro ⟨%f, %hf, H⟩ Hk
  subst hf
  iapply (wp_load_rect Variants.none (c : Thread nD τ) none Set.univ (m := m) (r := rRow s) (k := .ret) (Finset.Subset.refl _)) $$ H
  iintro H
  rw [wp_ret]; imodintro
  iapply Hk
  iexists f
  isplitr; · ipureintro; rfl
  iexact H

/-- A store to a block held whole leaves the stored contents. -/
theorem store_blk (c : Dev nD) {e : EltTy} (m : Memref sig .tc .vmem S2048x128 e) (s : Fin 16) {X : Vec F S128x128 e} (w : Vec F S128x128 e)
    {off : Fin 2 → Nat} {h : ∀ a, off a + S128x128.size a ≤ S2048x128.size a} (hoff : off = ![128 * s.val, 0])
    {hx : (m.access (Rect.unit (s := S2048x128) off S128x128.size h)).Stores Finset.univ} {hm}
    (Q : PUnit → SP F) :
    (row c m s X : SP F) ⊢ iprop((row c m s w -∗ Q ⟨⟩)
      -∗ WP c (Prog.lift (.store m (Rect.unit (s := S2048x128) off S128x128.size h) w Finset.univ hx hm)) Q) := by
  subst hoff
  unfold row owns
  iintro ⟨%f, %hf, H⟩ Hk
  iapply (wp_store Variants.none (c : Thread nD τ) none Set.univ (m := m) (r := rRow s) (Mk := Finset.univ) (k := .ret)
    (by rw [View.setOn_univ])) $$ H
  iintro H
  rw [wp_ret]; imodintro
  iapply Hk
  iexists _
  isplitr; swap
  · iexact H
  ipureintro; exact View.read_write_univ _ _

/-- A load of all of a memref reads its contents. -/
theorem load_all (c : Dev nD) {sh : Shape} {e : EltTy} (m : Memref sig .tc .vmem sh e) {q : PosShare TreeShare} {X : Vec F sh e} {off : Fin sh.rank → Nat}
    {h : ∀ a, off a + sh.size a ≤ sh.size a} (hoff : off = fun _ => 0) {hl} (Q : Vec F sh e → SP F) :
    (owns (c : Thread nD τ) m q X : SP F) ⊢ iprop((owns (c : Thread nD τ) m q X -∗ Q X)
      -∗ WP c (Prog.lift (.load m (Rect.unit off sh.size h).toLoadRect hl)) Q) := by
  subst hoff
  unfold owns
  iintro ⟨%f, %hf, H⟩ Hk
  subst hf
  iapply (wp_load Variants.none (c : Thread nD τ) none Set.univ (m := m) (k := .ret) (View.setOn_subset_set _ _)) $$ H
  iintro H
  rw [wp_ret]; imodintro
  have he : m.view.readAt (Elt F) (Rect.unit (fun _ => 0) sh.size h).toLoadRect f = m.view.read (Elt F) f :=
    funext fun x => congrArg (m.view.read (Elt F) f) (Rect.emb_whole_apply _ x)
  rw [he]
  iapply Hk
  iexists f
  isplitr; · ipureintro; rfl
  iexact H

/-- A store to all of a memref leaves the stored contents. -/
theorem store_all (c : Dev nD) {sh : Shape} {e : EltTy} (m : Memref sig .tc .vmem sh e) {X : Vec F sh e} (w : Vec F sh e) {off : Fin sh.rank → Nat}
    {h : ∀ a, off a + sh.size a ≤ sh.size a} (hoff : off = fun _ => 0) {hx hm} (Q : PUnit → SP F) :
    (owns (c : Thread nD τ) m fullShare X : SP F) ⊢ iprop((owns (c : Thread nD τ) m fullShare w -∗ Q ⟨⟩)
      -∗ WP c (Prog.lift (.store m (Rect.unit off sh.size h) w Finset.univ hx hm)) Q) := by
  subst hoff
  unfold owns
  iintro ⟨%f, %hf, H⟩ Hk
  iapply (wp_store Variants.none (c : Thread nD τ) none Set.univ (m := m) (r := Rect.unit (fun _ => 0) sh.size h) (Mk := Finset.univ) (k := .ret)
    ((View.setOn_subset_set _ _).trans (View.set_slice_subset _ _))) $$ H
  iintro H
  rw [wp_ret]; imodintro
  iapply Hk
  iexists _
  isplitr; swap
  · iexact H
  ipureintro
  funext x
  have h1 := View.read_slice_write_emb (Val := Elt F) (v := m.view) (Rect.unit (fun _ => 0) sh.size h) f w (Finset.mem_univ x)
  rwa [show (Rect.unit (fun _ => 0) sh.size h).emb x = x from Rect.emb_whole_apply _ x] at h1

/-! ## Waits -/

/-- A wait for the whole of a round of a semaphore whose one payment is device `d`'s: the payment's contents come with it. -/
theorem wait_cell (I : Ins F) (K : Dev nD × CK → ℕ) (c : Dev nD) (k : OK) (r : ℕ) (d : Dev nD) (hr : r < 4) (hd : dutyF c (.inr k) r = {d})
    {q : DmaSem sig} (hq : loc (.inr k) = .dma q)
    {sh sh' : Shape} {e e' : EltTy} {sp sp' : Space} {src : Memref sig .tc sp' sh' e'} {dst : Memref sig .tc sp sh e} {hsrc hdst}
    (hN : dst.view.dmaCredit = N) (l : List Debt) (hl : Above (lvF (.inr k) r) l) (Q : PUnit → SP F) :
    iprop(ctx I K ∗ owesE c l ∗ due (F := F) c (.inr k) r ∗ posn (F := F) c (.inr k) r)
      ⊢ iprop(((owesE c l ∗ posn (F := F) c (.inr k) (r + 1) ∗ payF I c (.inr k) r d) -∗ Q ⟨⟩)
        -∗ WP c (Prog.lift (.waitDma2 q src dst hsrc hdst)) Q) := by
  have hexp : 0 + dst.view.dmaCredit = (sched I).expect (kcell c (.inr k)) r := by
    rw [expect_eq, hd, Finset.card_singleton, hN]; show 0 + N = 1 * N; rw [zero_add, one_mul]
  have hpay : bigSep ((sched I).duties (kcell c (.inr k)) r \ ∅) (fun d => (sched I).payload (kcell c (.inr k)) r d) = payF I c (.inr k) r d := by
    rw [Finset.sdiff_empty, duties_eq, hd, bigSep_singleton, payload_eq]
  unfold owesE due posn
  iintro ⟨#Hc, ⟨%W, HO⟩, Hcr, Hat, -⟩ Hk
  ihave HI := (ctx_inv I K c (.inr k)) $$ Hc
  ihave HM := (ctx_mayWait I K c (.inr k) r hr l hl) $$ Hc
  have e1 : amtF (.inr k) = dst.view.dmaCredit := hN.symm
  rw [e1]
  unfold kcell at hexp hpay ⊢
  rw [hq] at hexp hpay ⊢
  iapply (Rounds.wp_wait_rest_token Variants.none ER (sched I) (c : Thread nD τ) none (κ := K (c, .inr k)) (k := .ret)
      (wpE_waitDma2_eq Variants.none (c : Thread nD τ) none Set.univ) (Set.mem_univ _) r (O := owed l) (W := W) (R := r) (m := 0) (T := ∅) hexp)
    $$ [HI Hcr HO HM Hat]
  · isplitl [HI]; · iexact HI
    isplitl [Hcr]; · iexact Hcr
    isplitl [HO]; · iexact HO
    isplitl [HM]; · iexact HM
    iexact Hat
  iintro ⟨HO, Hat, Hr, Hp⟩
  ihave Hp' := (Entails.of_eq hpay) $$ Hp
  rw [wp_ret]; imodintro
  iapply Hk
  isplitl [HO]; · iexists _; iexact HO
  isplitl [Hat Hr]
  · isplitl [Hat] <;> iassumption
  iexact Hp'

/-! ## Copies and signals -/

/-- The elements of a memref, held at contents that read `X`, are what holding it at `X` means. -/
theorem owns_mk (c : Dev nD) {sh : Shape} {e : EltTy} (m : Memref sig .tc .vmem sh e) (q : PosShare TreeShare) (f : m.view.ty.Contents (Elt F))
    {X : Vec F sh e} (hf : m.view.read (Elt F) f = X) :
    (m.view.loc (c : Thread nD τ) ↦[m.view.set]{q} f : SP F) ⊢ owns (c : Thread nD τ) m q X := by
  unfold owns
  iintro H
  iexists f
  isplitr; · ipureintro; exact hf
  iexact H

/-- A copy to device `d`: the source is paid to the device's own send semaphore `ks`, the landed copy with `R` to `d`'s
    semaphore `kr`. -/
theorem send_cell (I : Ins F) (K : Dev nD × CK → ℕ) (c d : Dev nD) (ks kr : OK) (r : ℕ)
    (hs : c ∈ dutyF c (.inr ks) r) (hr : c ∈ dutyF d (.inr kr) r) {qs qr : DmaSem sig} (hqs : loc (.inr ks) = .dma qs) (hqr : loc (.inr kr) = .dma qr)
    {sh : Shape} {e : EltTy} (src dst : Memref sig .tc .vmem sh e) {dev : Dev nD} (hdev : dev = d)
    {hsc hsrc hdst hsem} (hN : dst.view.dmaCredit = N) {q : PosShare TreeShare} {X : sh.Idx → Elt F e} {R : SP F}
    (hp₁ : (owns (c : Thread nD τ) src q X : SP F) ⊢ payF I c (.inr ks) r c)
    (hp₂ : iprop(owns (d : Thread nD τ) dst fullShare X ∗ R) ⊢ payF I d (.inr kr) r c)
    (l : List Debt) (Q : PUnit → SP F) :
    iprop(ctx I K ∗ owesE c (⟨d, .inr kr, r⟩ :: l) ∗ owns (c : Thread nD τ) src q X ∗ (∃ Y, owns (d : Thread nD τ) dst fullShare Y) ∗ R
        ∗ dutyTok ER (kcell c (.inr ks)) r c ∗ reached ER (kcell c (.inr ks)) r ∗ dutyTok ER (kcell d (.inr kr)) r c ∗ reached ER (kcell d (.inr kr)) r)
      ⊢ iprop(((owesE c l ∗ due (F := F) c (.inr ks) r) -∗ Q ⟨⟩)
        -∗ WP c (Prog.lift (.enqueueDma src (.remote (Dev.tc dev) dst (.dma qs) hsc) (.dma qr) hsrc hdst hsem)) Q) := by
  subst hdev
  have hd₁ : c ∈ (sched I).duties (kcell c (.inr ks)) r := by rw [duties_eq]; exact hs
  have hd₂ : c ∈ (sched I).duties (kcell dev (.inr kr)) r := by rw [duties_eq]; exact hr
  have ha₁ : (sched I).amount (kcell c (.inr ks)) r c = N := amount_eq I c _ r c
  have ha₂ : (sched I).amount (kcell dev (.inr kr)) r c = N := amount_eq I dev _ r c
  rw [← payload_eq I c (.inr ks) r c] at hp₁
  rw [← payload_eq I dev (.inr kr) r c] at hp₂
  have hO : owed (⟨dev, .inr kr, r⟩ :: l) = owed l + tallyAt (kcell dev (.inr kr)) r N := owed_cons _ _
  have e1 : due (F := F) c (.inr ks) r = cred (tallyAt (kcell c (.inr ks)) r N) := rfl
  rw [e1]
  unfold owesE
  iintro ⟨#Hc, ⟨%W, HO⟩, Hs, ⟨%Y, Hd⟩, HR, Ht₁, Hr₁, Ht₂, Hr₂⟩ Hk
  ihave HI₁ := (ctx_inv I K c (.inr ks)) $$ Hc
  ihave HI₂ := (ctx_inv I K dev (.inr kr)) $$ Hc
  ihave Hs' := (show (owns (c : Thread nD τ) src q X : SP F) ⊢ iprop(∃ f, ⌜src.view.read (Elt F) f = X⌝ ∗ (src.view.loc (c : Thread nD τ) ↦[src.view.set]{q} f)) from .rfl) $$ Hs
  icases Hs' with ⟨%f, %hf, Hs⟩
  ihave Hd' := (show (owns (dev : Thread nD τ) dst fullShare Y : SP F) ⊢ iprop(∃ f, ⌜dst.view.read (Elt F) f = Y⌝ ∗ (dst.view.loc (dev : Thread nD τ) ↦[dst.view.set]{fullShare} f)) from .rfl) $$ Hd
  icases Hd' with ⟨%g, -, Hd⟩
  unfold kcell at hd₁ hd₂ ha₁ ha₂ hp₁ hp₂ hO ⊢
  rw [hqs] at hd₁ ha₁ hp₁ ⊢
  rw [hqr] at hd₂ ha₂ hp₂ hO ⊢
  have p1 : (src.view.loc (c : Thread nD τ) ↦[src.view.set]{q} f) ⊢ (sched I).payload ((c : Thread nD τ), SemLoc.dma qs) r c :=
    (owns_mk c src q f hf).trans hp₁
  have p2 : iprop((dst.view.loc (dev : Thread nD τ) ↦[dst.view.set]{fullShare} (dst.view.write (Elt F) g (src.view.read (Elt F) f) Finset.univ)) ∗ R)
      ⊢ (sched I).payload ((dev : Thread nD τ), SemLoc.dma qr) r c :=
    (sep_mono_left (owns_mk dev dst fullShare _ (by rw [View.read_write_univ, hf]))).trans hp₂
  have hN' : dst.view.amount (SemLoc.dma qr) = N := hN
  have hro : τ.routes (c : Thread nD τ) (dev : Thread nD τ) = true := Topo.routes_tc c dev
  iapply (Rounds.wp_send_pointsTo_with Variants.none ER (sched I) (c : Thread nD τ) none (κ₁ := K (c, .inr ks)) (κ₂ := K (dev, .inr kr))
      (c' := (dev : Thread nD τ)) (src := src) (dst := dst) (k := .ret) (fs := f) (fd := g) (F := R) (r₁ := r) (r₂ := r) (d₁ := c) (d₂ := c)
      hd₁ hd₂ r r N hN' ha₁ ha₂ (owed l) hO (W := W) p1 p2 (hr := hro))
    $$ [HI₁ HI₂ Hs Hd HR HO Ht₁ Hr₁ Ht₂ Hr₂]
  · isplitl [HI₁]; · iexact HI₁
    isplitl [HI₂]; · iexact HI₂
    isplitl [Hs]; · iexact Hs
    isplitl [Hd HR]
    · isplitl [Hd] <;> iassumption
    isplitl [HO]; · iexact HO
    isplitl [Ht₁]; · iexact Ht₁
    isplitl [Hr₁]; · iexact Hr₁
    isplitl [Ht₂]; · iexact Ht₂
    iexact Hr₂
  iintro ⟨Hcr, HO⟩
  rw [wp_ret]; imodintro
  iapply Hk
  isplitl [HO]; · iexists _; iexact HO
  iexact Hcr

/-- A signal of the handshake to a peer: the device's place for the peer's rows goes with it. -/
theorem signal_bar (I : Ins F) (K : Dev nD × CK → ℕ) (c d : Dev nD) (hcd : c ≠ d) {dev : Dev nD} (hdev : dev = d) (l : List Debt) (Q : PUnit → SP F) :
    iprop(ctx I K ∗ owesE c (⟨d, bar, 0⟩ :: l) ∗ dutyTok ER (kcell d bar) 0 c ∗ rowAny (F := F) c xgM d)
      ⊢ iprop((owesE c l -∗ Q ⟨⟩) -∗ WP c (semSignalWord dev barS 1#32) Q) := by
  subst hdev
  have hd : c ∈ (sched I).duties (kcell dev bar) 0 := by
    rw [duties_eq]; show c ∈ (if 0 = 0 then Finset.univ.erase dev else ∅); rw [if_pos rfl]; exact Finset.mem_erase.mpr ⟨hcd, Finset.mem_univ _⟩
  have ha : (sched I).amount (kcell dev bar) 0 c = 1 := amount_eq I dev bar 0 c
  have hO : owed (⟨dev, bar, 0⟩ :: l) = owed l + tallyAt (kcell dev bar) 0 1 := owed_cons _ _
  unfold owesE
  iintro ⟨#Hc, ⟨%W, HO⟩, Ht, Hp⟩ Hk
  ihave HI := (ctx_inv I K dev bar) $$ Hc
  ihave Hr := (ctx_reached I K dev bar) $$ Hc
  simp only [semSignalWord]
  iapply (Rounds.wp_signal Variants.none ER (sched I) (c : Thread nD τ) none (dst := (dev : Thread nD τ)) (κ := K (dev, bar)) (k := .ret)
      (d := c) (r := 0) (k' := 1) hd ha 0 (owed l) hO (W := W)) $$ [HI HO Ht Hp Hr]
  · isplitl [HI]; · iexact HI
    isplitl [HO]; · iexact HO
    isplitl [Ht]; · iexact Ht
    isplitl [Hp]
    · iapply (Entails.of_eq (show rowAny (F := F) c xgM dev = (sched I).payload ((dev : Thread nD τ), SemLoc.reg barS) 0 c from (payload_eq I dev bar 0 c).symm))
      iexact Hp
    iexact Hr
  iintro HO
  rw [wp_ret]; imodintro
  iapply Hk
  iexists _; iexact HO

/-- The wait of the handshake: every peer's place for the device's rows comes with it. -/
theorem wait_bar (I : Ins F) (K : Dev nD × CK → ℕ) (c : Dev nD) (l : List Debt) (hl : Above 1 l) (Q : PUnit → SP F) :
    iprop(ctx I K ∗ owesE c l ∗ cred (tallyAt (kcell c bar) 0 15) ∗ posn (F := F) c bar 0)
      ⊢ iprop(((owesE c l ∗ posn (F := F) c bar 1 ∗ bigSep Finset.univ fun k : Fin 15 => rowAny (F := F) (pr c k) xgM c) -∗ Q ⟨⟩)
        -∗ WP c (semWaitWord barS 15#32) Q) := by
  have hexp : 0 + 15 = (sched I).expect (kcell c bar) 0 := by
    rw [expect_eq]; show 0 + 15 = (if 0 = 0 then Finset.univ.erase c else ∅ : Finset (Dev nD)).card * 1
    rw [if_pos rfl, Finset.card_erase_of_mem (Finset.mem_univ _)]; rfl
  have hpay : bigSep ((sched I).duties (kcell c bar) 0 \ ∅) (fun d => (sched I).payload (kcell c bar) 0 d)
      = bigSep Finset.univ fun k : Fin 15 => rowAny (F := F) (pr c k) xgM c := by
    rw [Finset.sdiff_empty, duties_eq]
    show bigSep (if 0 = 0 then Finset.univ.erase c else ∅ : Finset (Dev nD)) _ = _
    rw [if_pos rfl, bigSep_peers]
    exact bigSep_congr fun k _ => payload_eq I c bar 0 _
  unfold owesE posn
  iintro ⟨#Hc, ⟨%W, HO⟩, Hcr, Hat, -⟩ Hk
  ihave HI := (ctx_inv I K c bar) $$ Hc
  ihave HM := (ctx_mayWait I K c bar 0 (by omega) l hl) $$ Hc
  simp only [semWaitWord]
  unfold kcell at hexp hpay ⊢
  rw [loc_bar] at hexp hpay ⊢
  iapply (Rounds.wp_wait_rest_token Variants.none ER (sched I) (c : Thread nD τ) none (κ := K (c, bar)) (k := .ret)
      (wpE_semWait_eq Variants.none (c : Thread nD τ) none Set.univ) (Set.mem_univ _) 0 (O := owed l) (W := W) (R := 0) (m := 0) (T := ∅) hexp)
    $$ [HI Hcr HO HM Hat]
  · isplitl [HI]; · iexact HI
    isplitl [Hcr]; · iexact Hcr
    isplitl [HO]; · iexact HO
    isplitl [HM]; · iexact HM
    iexact Hat
  iintro ⟨HO, Hat, Hr, Hp⟩
  rw [wp_ret]; imodintro
  ihave Hp' := (Entails.of_eq hpay) $$ Hp
  iapply Hk
  isplitl [HO]; · iexists _; iexact HO
  isplitl [Hat Hr]
  · isplitl [Hat] <;> iassumption
  iexact Hp'

/-! ## Loops -/

theorem forN_zero (f : Fin 0 → TP F PUnit) : forN 0 f = (.ret ⟨⟩ : TP F PUnit) := rfl
theorem forN_succ (n : ℕ) (f : Fin (n + 1) → TP F PUnit) : forN (n + 1) f = f 0 >>= fun _ => forN n fun i => f i.succ := rfl

theorem foldN_zero {A : Type} (f : Fin 0 → A → TP F A) (a : A) : foldN 0 f a = (.ret a : TP F A) := rfl
theorem foldN_succ {A : Type} (n : ℕ) (f : Fin (n + 1) → A → TP F A) (a : A) : foldN (n + 1) f a = f 0 a >>= foldN n fun i => f i.succ := rfl
theorem fin_succ {n : ℕ} (Θ : Fin (n + 1) → SP F) : bigSep Finset.univ Θ = iprop(Θ 0 ∗ bigSep Finset.univ fun k : Fin n => Θ k.succ) := by
  rw [Fin.univ_succ, Finset.cons_eq_insert, bigSep_insert (by simp), bigSep_map]; rfl

/-- A loop over the peers: each turn works on its own holdings `Ψ k`, leaving `Φ k`, and on what is owed, paying `e k`;
    `R` is what all turns share, and `A` what holds of the debts throughout. -/
theorem loop (c : Dev nD) (R : SP F) (A : List Debt → Prop) (hA : ∀ e l, A (e ++ l) → A l) : (n : ℕ) → (f : Fin n → TP F PUnit) → (Ψ Φ : Fin n → SP F) → (e : Fin n → List Debt) → (l : List Debt) →
    A ((List.ofFn e).flatten ++ l) →
    (∀ k l' (Q : PUnit → SP F), A (e k ++ l') → iprop(R ∗ owesE c (e k ++ l') ∗ Ψ k) ⊢ iprop(((R ∗ owesE c l' ∗ Φ k) -∗ Q ⟨⟩) -∗ WP c (f k) Q)) →
    (Q : PUnit → SP F) →
    iprop(R ∗ owesE c ((List.ofFn e).flatten ++ l) ∗ bigSep Finset.univ Ψ)
      ⊢ iprop(((R ∗ owesE c l ∗ bigSep Finset.univ Φ) -∗ Q ⟨⟩) -∗ WP c (forN n f) Q)
  | 0, f, Ψ, Φ, e, l, _, _, Q => by
    rw [List.ofFn_zero, show (Finset.univ : Finset (Fin 0)) = ∅ from rfl, bigSep_empty, bigSep_empty]
    iintro ⟨HR, HO, -⟩ Hk
    rw [forN_zero, WP_ret]; imodintro
    iapply Hk
    isplitl [HR]; · iexact HR
    isplitl [HO]; · iexact HO
    iempintro
  | n + 1, f, Ψ, Φ, e, l, ha, h, Q => by
    have hl : (List.ofFn e).flatten ++ l = e 0 ++ ((List.ofFn fun k : Fin n => e k.succ).flatten ++ l) := by
      rw [List.ofFn_succ, List.flatten_cons, List.append_assoc]
    rw [hl] at ha ⊢
    rw [fin_succ Ψ, fin_succ Φ]
    iintro ⟨HR, HO, H0, H⟩ Hk
    rw [forN_succ, WP_bind]
    iapply (h 0 ((List.ofFn fun k : Fin n => e k.succ).flatten ++ l) _ ha) $$ [HR HO H0]
    · isplitl [HR]; · iexact HR
      isplitl [HO] <;> iassumption
    iintro ⟨HR, HO, H0⟩
    iapply (loop c R A hA n (fun k => f k.succ) (fun k => Ψ k.succ) (fun k => Φ k.succ) (fun k => e k.succ) l
      (hA _ _ ha) (fun k => h k.succ) Q) $$ [HR HO H]
    · isplitl [HR]; · iexact HR
      isplitl [HO] <;> iassumption
    iintro ⟨HR, HO, H⟩
    iapply Hk
    isplitl [HR]; · iexact HR
    isplitl [HO]; · iexact HO
    isplitl [H0] <;> iassumption

theorem flatten_one {α : Type} : (n : ℕ) → (f : Fin n → α) → (List.ofFn fun k => [f k]).flatten = List.ofFn f
  | 0, _ => rfl
  | n + 1, f => by rw [List.ofFn_succ, List.ofFn_succ, List.flatten_cons, flatten_one n]; rfl
theorem flatten_nil {α : Type} : (n : ℕ) → (List.ofFn fun _ : Fin n => ([] : List α)).flatten = []
  | 0 => rfl
  | n + 1 => by rw [List.ofFn_succ, List.flatten_cons, flatten_nil n]; rfl

/-- A loop whose turns pay one debt each. -/
theorem loop_pay (I : Ins F) (K : Dev nD × CK → ℕ) (c : Dev nD) (A : List Debt → Prop) (hA : ∀ e l, A (e ++ l) → A l) (n : ℕ) (f : Fin n → TP F PUnit)
    (Ψ Φ : Fin n → SP F) (e : Fin n → Debt) (l : List Debt) (ha : A (List.ofFn e ++ l))
    (h : ∀ k l' (Q : PUnit → SP F), A (e k :: l') → iprop(ctx I K ∗ owesE c (e k :: l') ∗ Ψ k) ⊢ iprop(((owesE c l' ∗ Φ k) -∗ Q ⟨⟩) -∗ WP c (f k) Q))
    (Q : PUnit → SP F) :
    iprop(ctx I K ∗ owesE c (List.ofFn e ++ l) ∗ bigSep Finset.univ Ψ)
      ⊢ iprop(((owesE c l ∗ bigSep Finset.univ Φ) -∗ Q ⟨⟩) -∗ WP c (forN n f) Q) := by
  rw [← flatten_one] at ha ⊢
  iintro ⟨#Hc, HO, H⟩ Hk
  iapply (loop c (ctx I K) A hA n f Ψ Φ (fun k => [e k]) l ha (fun k l' Q hl => ?_) Q) $$ [HO H]
  rotate_left 1
  · isplitr; · iexact Hc
    isplitl [HO] <;> iassumption
  · iintro ⟨-, HO, H⟩
    iapply Hk
    isplitl [HO] <;> iassumption
  · iintro ⟨#Hc, HO, H⟩ Hk
    iapply (h k l' Q hl) $$ [HO H]
    · isplitr; · iexact Hc
      isplitl [HO]; · iexact HO
      iexact H
    iintro ⟨HO, H⟩
    iapply Hk
    isplitr; · iexact Hc
    isplitl [HO] <;> iassumption

/-- A loop whose turns each work on their own holdings, and share `R`. -/
theorem loop_free (c : Dev nD) (R : SP F) : (n : ℕ) → (f : Fin n → TP F PUnit) → (Ψ Φ : Fin n → SP F) →
    (∀ k (Q : PUnit → SP F), iprop(R ∗ Ψ k) ⊢ iprop(((R ∗ Φ k) -∗ Q ⟨⟩) -∗ WP c (f k) Q)) →
    (Q : PUnit → SP F) → iprop(R ∗ bigSep Finset.univ Ψ) ⊢ iprop(((R ∗ bigSep Finset.univ Φ) -∗ Q ⟨⟩) -∗ WP c (forN n f) Q)
  | 0, f, Ψ, Φ, _, Q => by
    rw [show (Finset.univ : Finset (Fin 0)) = ∅ from rfl, bigSep_empty, bigSep_empty]
    iintro ⟨HR, -⟩ Hk
    rw [forN_zero, WP_ret]; imodintro
    iapply Hk
    isplitl [HR]; · iexact HR
    iempintro
  | n + 1, f, Ψ, Φ, h, Q => by
    rw [fin_succ Ψ, fin_succ Φ]
    iintro ⟨HR, H0, H⟩ Hk
    rw [forN_succ, WP_bind]
    iapply (h 0 _) $$ [HR H0]
    · isplitl [HR] <;> iassumption
    iintro ⟨HR, H0⟩
    iapply (loop_free c R n (fun k => f k.succ) (fun k => Ψ k.succ) (fun k => Φ k.succ) (fun k => h k.succ) Q) $$ [HR H]
    · isplitl [HR] <;> iassumption
    iintro ⟨HR, H⟩
    iapply Hk
    isplitl [HR]; · iexact HR
    isplitl [H0] <;> iassumption

/-- A loop whose turns pay no debt. -/
theorem loop_wait (I : Ins F) (K : Dev nD × CK → ℕ) (c : Dev nD) (n : ℕ) (f : Fin n → TP F PUnit) (Ψ Φ : Fin n → SP F) (l : List Debt)
    (h : ∀ k (Q : PUnit → SP F), iprop(ctx I K ∗ owesE c l ∗ Ψ k) ⊢ iprop(((owesE c l ∗ Φ k) -∗ Q ⟨⟩) -∗ WP c (f k) Q))
    (Q : PUnit → SP F) :
    iprop(ctx I K ∗ owesE c l ∗ bigSep Finset.univ Ψ)
      ⊢ iprop(((owesE c l ∗ bigSep Finset.univ Φ) -∗ Q ⟨⟩) -∗ WP c (forN n f) Q) := by
  iintro ⟨#Hc, HO, H⟩ Hk
  iapply (loop_free c iprop(ctx I K ∗ owesE c l) n f Ψ Φ (fun k Q => ?_) Q) $$ [HO H]
  rotate_left 1
  · isplitl [HO]
    · isplitr; · iexact Hc
      iexact HO
    iexact H
  · iintro ⟨⟨-, HO⟩, H⟩
    iapply Hk
    isplitl [HO] <;> iassumption
  · iintro ⟨⟨#Hc, HO⟩, H⟩ Hk
    iapply (h k Q) $$ [HO H]
    · isplitr; · iexact Hc
      isplitl [HO] <;> iassumption
    iintro ⟨HO, H⟩
    iapply Hk
    isplitl [HO]
    · isplitr; · iexact Hc
      iexact HO
    iexact H

/-- A loop with an accumulator whose turns leave their holdings as they are. -/
theorem loop_fold (c : Dev nD) {A : Type} : (n : ℕ) → (f : Fin n → A → TP F A) → (Ψ : Fin n → SP F) → (g : A → Fin n → A) →
    (∀ k a (Q : A → SP F), Ψ k ⊢ iprop((Ψ k -∗ Q (g a k)) -∗ WP c (f k a) Q)) →
    (a : A) → (Q : A → SP F) → bigSep Finset.univ Ψ ⊢ iprop((bigSep Finset.univ Ψ -∗ Q ((List.finRange n).foldl g a)) -∗ WP c (foldN n f a) Q)
  | 0, f, Ψ, g, _, a, Q => by
    iintro H Hk
    rw [foldN_zero, WP_ret, List.finRange_zero, List.foldl_nil]; imodintro
    iapply Hk; iexact H
  | n + 1, f, Ψ, g, h, a, Q => by
    rw [fin_succ Ψ, List.finRange_succ, List.foldl_cons, List.foldl_map]
    iintro ⟨H0, H⟩ Hk
    rw [foldN_succ, WP_bind]
    iapply (h 0 a _) $$ H0
    iintro H0
    iapply (loop_fold c n (fun k => f k.succ) (fun k => Ψ k.succ) (fun a k => g a k.succ) (fun k => h k.succ) (g a 0) Q) $$ H
    iintro H
    iapply Hk
    isplitl [H0] <;> iassumption

end Cert.Proof.KI

end
-- ==== Proof.Ideal.Parts.lean ====
/- For `KernelIdeal`, the program of the claims over the extended reals; the text is that of the module of the same name
   for `Kernel`.
   The parts of the body, each over what it uses and what it leaves. -/
module

public import proofs.«01_k».proof.Proof.Ideal.Steps
public import Idealize.ShloMosaic.Lib.Pipeline.Value

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a copy credits -/

theorem N_xg (s : Fin 16) : (blk xgM s).view.dmaCredit = N := by unfold N; rfl
theorem N_rs (s : Fin 16) : (blk rsM s).view.dmaCredit = N := by unfold N; rfl
theorem N_pb (s : Fin 16) : (blk pbM s).view.dmaCredit = N := by unfold N; rfl
theorem N_xb : xbM.view.dmaCredit = N := by unfold N; rfl

/-! ## The payers -/

theorem mem_agS (c : Dev nD) (k : Fin 15) {p : ℕ} (hp : p < 4) : dutyF c (agS k) p = {c} := if_pos hp
theorem mem_rsS (c : Dev nD) (k : Fin 15) {l : ℕ} (hl : l < 3) : dutyF c (rsS k) l = {c} := if_pos hl
theorem mem_ag (c s : Dev nD) (h : s ≠ c) {p : ℕ} (hp : p < 4) : dutyF c (ag s) p = {s} := if_pos ⟨h, hp⟩
theorem mem_rs (c s : Dev nD) (h : s ≠ c) {l : ℕ} (hl : l < 3) : dutyF c (rs s) l = {s} := if_pos ⟨h, hl⟩

theorem mem_one {c : Dev nD} {A : Finset (Dev nD)} (h : A = {c}) : c ∈ A := h ▸ Finset.mem_singleton_self c

/-! ### What the payments hand over -/

theorem payF_ag (I : Ins F) (c s : Dev nD) (p : ℕ) : payF I c (ag s) p s = iprop(row (F := F) c xgM s (I.X p s) ∗ rsSlot F s c p) := rfl
theorem payF_rs (I : Ins F) (c s : Dev nD) (l : ℕ) :
    payF I c (rs s) l s = iprop(row (F := F) c rsM s (I.P l s c) ∗ rowAny (F := F) s xgM c ∗ reached ER (kcell s (ag c)) (l + 1)) := rfl
theorem rsSlot_pos (s d : Dev nD) {p : ℕ} (h : p < 3) : rsSlot F s d p = iprop(rowAny (F := F) s rsM d ∗ reached ER (kcell s (rs d)) p) := if_pos h
theorem row_owns (c : Dev nD) {e : EltTy} (m : Memref sig .tc .vmem S2048x128 e) (s : Fin 16) (X : Vec F S128x128 e) :
    row c m s X ⊢ owns (c : Thread nD τ) (blk m s) fullShare X := .rfl
theorem rowAny_owns (c : Dev nD) {e : EltTy} (m : Memref sig .tc .vmem S2048x128 e) (s : Fin 16) :
    rowAny (F := F) c m s ⊢ iprop(∃ Y, owns (c : Thread nD τ) (blk m s) fullShare Y) := .rfl
theorem row_any (c : Dev nD) {e : EltTy} (m : Memref sig .tc .vmem S2048x128 e) (s : Fin 16) (X : Vec F S128x128 e) : row c m s X ⊢ rowAny (F := F) c m s := by
  unfold rowAny; iintro H; iexists X; iexact H

/-- A load of a block held whole reads its contents. -/
theorem load_row (c : Dev nD) {e : EltTy} (m : Memref sig .tc .vmem S2048x128 e) (s : Fin 16) {X : Vec F S128x128 e}
    {off : Fin 2 → Nat} {h : ∀ a, off a + S128x128.size a ≤ S2048x128.size a} (hoff : off = ![128 * s.val, 0]) (Q : Vec F S128x128 e → SP F) :
    row c m s X ⊢ iprop((row c m s X -∗ Q X) -∗ WP c (loadRows m off h) Q) := load_blk c m s hoff Q

/-- A copy whose source and target are, in other words, the memrefs `src'` and `dst'`. -/
theorem send_at (I : Ins F) (K : Dev nD × CK → ℕ) (c d : Dev nD) (ks kr : OK) (r : ℕ)
    (hs : dutyF c (.inr ks) r = {c}) (hr : dutyF d (.inr kr) r = {c}) {qs qr : DmaSem sig} (hqs : loc (.inr ks) = .dma qs) (hqr : loc (.inr kr) = .dma qr)
    {sh : Shape} {e : EltTy} (src dst src' dst' : Memref sig .tc .vmem sh e) (es : src = src') (ed : dst = dst') {dev : Dev nD} (hdev : dev = d)
    {hsc hsrc hdst hsem} (hN : dst'.view.dmaCredit = N) {q : PosShare TreeShare} {X : sh.Idx → Elt F e} {R : SP F}
    (hp₁ : (owns (c : Thread nD τ) src' q X : SP F) ⊢ payF I c (.inr ks) r c)
    (hp₂ : iprop(owns (d : Thread nD τ) dst' fullShare X ∗ R) ⊢ payF I d (.inr kr) r c)
    (l : List Debt) (Q : PUnit → SP F) :
    iprop(ctx I K ∗ owesE c (⟨d, .inr kr, r⟩ :: l) ∗ owns (c : Thread nD τ) src' q X ∗ (∃ Y, owns (d : Thread nD τ) dst' fullShare Y) ∗ R
        ∗ dutyTok ER (kcell c (.inr ks)) r c ∗ reached ER (kcell c (.inr ks)) r ∗ dutyTok ER (kcell d (.inr kr)) r c ∗ reached ER (kcell d (.inr kr)) r)
      ⊢ iprop(((owesE c l ∗ due (F := F) c (.inr ks) r) -∗ Q ⟨⟩)
        -∗ WP c (Prog.lift (.enqueueDma src (.remote (Dev.tc dev) dst (.dma qs) hsc) (.dma qr) hsrc hdst hsem)) Q) := by
  subst es ed
  exact send_cell I K c d ks kr r (mem_one hs) (mem_one hr) hqs hqr src dst hdev hN hp₁ hp₂ l Q

section Parts

variable (h8 : xgM.IsWhole) (h9 : rsM.IsWhole) (h10 : pbM.IsWhole) (h11 : xbM.IsWhole)
variable (I : Ins F) (K : Dev nD × CK → ℕ) (c : Dev nD)

/-- The rights to pay for the all-gather copy of phase `p` to peer `k`: its source's semaphore and its target's. -/
def agTok (p : ℕ) (k : Fin 15) : SP F := iprop(dutyTok ER (kcell c (agS k)) p c ∗ dutyTok ER (kcell (pr c k) (ag c)) p c)
/-- The rights to pay for the copy of layer `l`'s partial product to peer `k`. -/
def rsTok (l : ℕ) (k : Fin 15) : SP F := iprop(dutyTok ER (kcell c (rsS k)) l c ∗ dutyTok ER (kcell (pr c k) (rs c)) l c)
/-- Peer `k` has opened its place for the device's rows of phase `p`. -/
def agReady (p : ℕ) (k : Fin 15) : SP F := iprop(rowAny (F := F) (pr c k) xgM c ∗ reached ER (kcell (pr c k) (ag c)) p)
/-- Device `c` waits on its semaphore `k` in round `r`, and may. -/
def pend (k : CK) (r : ℕ) : SP F := iprop(posn (F := F) c k r ∗ due (F := F) c k r)

/-! ### The handshake and the first copies -/

theorem sigs_wp (l : List Debt) (Q : PUnit → SP F) :
    iprop(ctx I K ∗ owesE c (barD c ++ l) ∗ bigSep Finset.univ fun k : Fin 15 => iprop(dutyTok ER (kcell (pr c k) bar) 0 c ∗ rowAny (F := F) c xgM (pr c k)))
      ⊢ iprop((owesE c l -∗ Q ⟨⟩) -∗ WP c (sigs c) Q) := by
  iintro ⟨#Hc, HO, H⟩ Hk
  iapply (loop_pay I K c (fun _ => True) (fun _ _ _ => trivial) 15 _ _ (fun _ => iprop(emp)) _ l trivial (fun k l' Q _ => ?_) Q) $$ [HO H]
  rotate_left 1
  · isplitr; · iexact Hc
    isplitl [HO]; · iexact HO
    iexact H
  · iintro ⟨HO, -⟩; iapply Hk; iexact HO
  · iintro ⟨#Hc, HO, Ht, Hr⟩ Hk
    iapply (signal_bar I K c (pr c k) (ne_pr c k) (barDev_eq c k) l' Q) $$ [HO Ht Hr]
    · isplitr; · iexact Hc
      isplitl [HO]; · iexact HO
      isplitl [Ht] <;> iassumption
    iintro HO
    iapply Hk
    isplitl [HO]; · iexact HO
    iempintro

theorem zero2 : (![0, 0] : Fin 2 → ℕ) = fun _ => 0 := by funext i; fin_cases i <;> rfl

theorem start_wp (a0 : Memref sig .tc .vmem S128x128 .f32) {q : PosShare TreeShare} (Q : PUnit → SP F) :
    iprop(owns (c : Thread nD τ) a0 q (I.x c) ∗ (∃ X, owns (c : Thread nD τ) xbM fullShare X) ∗ rowAny (F := F) c xgM c)
      ⊢ iprop(((owns (c : Thread nD τ) a0 q (I.x c) ∗ owns (c : Thread nD τ) xbM fullShare (I.X 0 c) ∗ row c xgM c (I.X 0 c)) -∗ Q ⟨⟩)
        -∗ WP c (start a0 xgM h8 xbM h11 c) Q) := by
  iintro ⟨H0, ⟨%X, Hb⟩, Hr⟩ Hk
  ihave Hr' := (show rowAny (F := F) c xgM c ⊢ iprop(∃ Y, row c xgM c Y) from .rfl) $$ Hr
  icases Hr' with ⟨%Y, Hr⟩
  unfold start
  rw [WP_bind]
  iapply (load_all c a0 zero2 _) $$ H0
  iintro H0
  rw [WP_bind]
  iapply (load_all c xbM zero2 _) $$ Hb
  iintro Hb
  rw [WP_bind]
  iapply (store_all c xbM (castX (I.x c)) zero2 _) $$ Hb
  iintro Hb
  rw [WP_bind]
  iapply (load_all c xbM zero2 _) $$ Hb
  iintro Hb
  rw [WP_bind]
  iapply (load_row c xgM c (k0_off1_eq c) _) $$ Hr
  iintro Hr
  iapply (store_blk c xgM c _ (k0_off1_eq c) _) $$ Hr
  iintro Hr
  iapply Hk
  isplitl [H0]; · iexact H0
  isplitl [Hb]; · iexact Hb
  rw [shapeCast_self]
  iexact Hr

/-- The copies of all-gather phase `p`, one to each peer, whose source is `src`. -/
theorem ag_wp (p : ℕ) (hp : p < 4) (src src' : Memref sig .tc .vmem S128x128 .bf16) (es : src = src')
    (hsrc : ∀ k, agSrc I c p k = owns (c : Thread nD τ) src' (part k.val) (I.X p c)) (dev : Fin 15 → Dev nD) (hdev : ∀ k, dev k = pr c k)
    {hw : src.view.WordExact} {hd : (xgM.slice (rSrc c) (fun _ => rfl)).view.WordExact} (l : List Debt) (Q : PUnit → SP F) :
    iprop(ctx I K ∗ owesE c (agD c p ++ l) ∗ bigSep Finset.univ fun k : Fin 15 =>
        iprop(agTok (F := F) c p k ∗ posn (F := F) c (agS k) p ∗ agReady (F := F) c p k ∗ rsSlot F c (pr c k) p ∗ agSrc I c p k))
      ⊢ iprop(((owesE c l ∗ bigSep Finset.univ fun k : Fin 15 => pend (F := F) c (agS k) p) -∗ Q ⟨⟩)
        -∗ WP c (forN 15 fun k => Prog.lift (.enqueueDma src (.remote (Dev.tc (dev k)) (xgM.slice (rSrc c) (fun _ => rfl)) (.dma (semSend cc0_scratch5 k)))
            (.dma (semOwn cc0_scratch6 c)) hw hd ⟨⟨rfl, Or.inl rfl⟩, trivial⟩)) Q) := by
  iintro ⟨#Hc, HO, H⟩ Hk
  iapply (loop_pay I K c (fun _ => True) (fun _ _ _ => trivial) 15 _ _ (fun k => pend (F := F) c (agS k) p) _ l trivial (fun k l' Q _ => ?_) Q) $$ [HO H]
  rotate_left 1
  · isplitr; · iexact Hc
    isplitl [HO]; · iexact HO
    iexact H
  · iintro ⟨HO, H⟩; iapply Hk; isplitl [HO] <;> iassumption
  · unfold agTok posn agReady pend
    unfold posn
    rw [hsrc k]
    iintro ⟨#Hc, HO, ⟨Ht₁, Ht₂⟩, ⟨Hat, #Hat'⟩, ⟨Hr, Hr'⟩, Hs, Hsrc⟩ Hk
    iapply (send_at I K c (pr c k) (.inl (.inr k)) (.inr (.inl c)) p (mem_agS c k hp) (mem_ag (pr c k) c (ne_pr c k) hp) (loc_agS k) (loc_ag c)
      src _ src' (blk xgM c) es (src_eq xgM c) (hdev k) (N_xg c) (R := rsSlot F c (pr c k) p) (Entails.of_eq (hsrc k).symm) .rfl l' Q)
      $$ [HO Hsrc Hr Hs Ht₁ Ht₂ Hr']
    · isplitr; · iexact Hc
      isplitl [HO]; · iexact HO
      isplitl [Hsrc]; · iexact Hsrc
      isplitl [Hr]; · iapply (rowAny_owns (F := F) (pr c k) xgM c); iexact Hr
      isplitl [Hs]; · iexact Hs
      isplitl [Ht₁]; · iexact Ht₁
      isplitr; · iexact Hat'
      isplitl [Ht₂] <;> iassumption
    iintro ⟨HO, Hd⟩
    iapply Hk
    isplitl [HO]; · iexact HO
    isplitl [Hat]
    · isplitl [Hat]; · iexact Hat
      iexact Hat'
    iexact Hd

/-! ### A peer's chunk -/

theorem waitAg_wp (k : Fin 15) (p : ℕ) (hp : p < 4) (l : List Debt) (hl : Above (2 + 2 * p) l) (Q : PUnit → SP F) :
    iprop(ctx I K ∗ owesE c l ∗ pend (F := F) c (ag (pr c k)) p)
      ⊢ iprop(((owesE c l ∗ posn (F := F) c (ag (pr c k)) (p + 1) ∗ row c xgM (pr c k) (I.X p (pr c k)) ∗ rsSlot F (pr c k) c p) -∗ Q ⟨⟩)
        -∗ WP c (waitAg xgM h8 xbM h11 cc0_scratch6 c k) Q) := by
  unfold pend waitAg
  iintro ⟨#Hc, HO, Hp, Hd⟩ Hk
  iapply (wait_cell I K c (.inr (.inl (pr c k))) p (pr c k) hp (mem_ag c _ (pr_ne c k) hp) (loc_agPeer c k)
    ((congrArg (fun m : Memref sig .tc .vmem S128x128 .bf16 => m.view.dmaCredit) (copy_eq xgM c k)).trans (N_xg _)) l hl Q) $$ [HO Hp Hd]
  · isplitr; · iexact Hc
    isplitl [HO]; · iexact HO
    isplitl [Hd] <;> iassumption
  iintro ⟨HO, Hp, Hr⟩
  iapply Hk
  isplitl [HO]; · iexact HO
  isplitl [Hp]; · iexact Hp
  iapply (Entails.of_eq (payF_ag I c (pr c k) p)); iexact Hr

/-- What peer `k`'s chunk of layer `l` uses, and what it leaves. -/
def chunkPre (l : ℕ) (k : Fin 15) : SP F :=
  iprop(pend (F := F) c (ag (pr c k)) l ∗ rowAny (F := F) c pbM (pr c k) ∗ rsTok (F := F) c l k ∗ posn (F := F) c (rsS k) l)
def chunkPost (l : ℕ) (k : Fin 15) : SP F := iprop(posn (F := F) c (ag (pr c k)) (l + 1) ∗ pend (F := F) c (rsS k) l)

theorem chunk_wp (l : ℕ) (hl : l < 3) (dev : Fin 15 → Dev nD) (hdev : ∀ k, dev k = pr c k) (k : Fin 15) (m : List Debt)
    (hm : Above (2 + 2 * l) (⟨pr c k, rs c, l⟩ :: m)) (Q : PUnit → SP F) :
    iprop(ctx I K ∗ owesE c (⟨pr c k, rs c, l⟩ :: m) ∗ chunkPre (F := F) c l k)
      ⊢ iprop(((owesE c m ∗ chunkPost (F := F) c l k) -∗ Q ⟨⟩)
        -∗ WP c (chunk xgM h8 rsM h9 pbM h10 xbM h11 cc0_scratch4 cc0_scratch6 cc0_scratch7 dev c (castIn (I.w1 l c)) (castOut (I.w2 l c)) k) Q) := by
  unfold chunkPre chunkPost rsTok
  iintro ⟨#Hc, HO, Hpend, Hpb, ⟨Ht₁, Ht₂⟩, Hps⟩ Hk
  unfold chunk
  rw [WP_bind]
  iapply (waitAg_wp h8 h11 I K c k l (by omega) _ hm _) $$ [HO Hpend]
  · isplitr; · iexact Hc
    isplitl [HO] <;> iassumption
  iintro ⟨HO, Hpos, Hx, Hs⟩
  ihave Hpos' := (show posn (F := F) c (ag (pr c k)) (l + 1) ⊢ iprop(atPos ER (kcell c (ag (pr c k))) (l + 1) ∅ 0 ∗ reached ER (kcell c (ag (pr c k))) (l + 1)) from .rfl) $$ Hpos
  icases Hpos' with ⟨Hpos, #Hrc⟩
  ihave Hps' := (show posn (F := F) c (rsS k) l ⊢ iprop(atPos ER (kcell c (rsS k)) l ∅ 0 ∗ reached ER (kcell c (rsS k)) l) from .rfl) $$ Hps
  icases Hps' with ⟨Hps, #Hrs⟩
  ihave Hs' := (Entails.of_eq (rsSlot_pos (F := F) (pr c k) c hl)) $$ Hs
  icases Hs' with ⟨Hslot, Hrr⟩
  ihave Hpb' := (show rowAny (F := F) c pbM (pr c k) ⊢ iprop(∃ Y, row c pbM (pr c k) Y) from .rfl) $$ Hpb
  icases Hpb' with ⟨%Y, Hpb⟩
  rw [WP_bind]
  iapply (load_row c xgM (pr c k) (peer_off c k) _) $$ Hx
  iintro Hx
  rw [WP_bind]
  iapply (load_row c pbM (pr c k) (peer_off c k) _) $$ Hpb
  iintro Hpb
  rw [WP_bind]
  iapply (store_blk c pbM (pr c k) _ (peer_off c k) _) $$ Hpb
  iintro Hpb
  iapply (send_at I K c (pr c k) (.inl (.inl k)) (.inr (.inr c)) l (mem_rsS c k hl) (mem_rs (pr c k) c (ne_pr c k) hl) (loc_rsS k) (loc_rs c)
      _ _ (blk pbM (pr c k)) (blk rsM c) (copy_eq pbM c k) (src_eq rsM c) (hdev k) (N_rs c) (q := fullShare) (X := I.P l c (pr c k))
      (R := iprop(rowAny (F := F) c xgM (pr c k) ∗ reached ER (kcell c (ag (pr c k))) (l + 1))) .rfl .rfl m Q)
      $$ [HO Hpb Hslot Hx Ht₁ Ht₂ Hrr]
  · isplitr; · iexact Hc
    isplitl [HO]; · iexact HO
    isplitl [Hpb]; · iapply (row_owns (F := F) c pbM (pr c k) _); iexact Hpb
    isplitl [Hslot]; · iapply (rowAny_owns (F := F) (pr c k) rsM c); iexact Hslot
    isplitl [Hx]
    · isplitl [Hx]; · iapply (row_any c xgM (pr c k) _); iexact Hx
      iexact Hrc
    isplitl [Ht₁]; · iexact Ht₁
    isplitr; · iexact Hrs
    isplitl [Ht₂] <;> iassumption
  iintro ⟨HO, Hd⟩
  iapply Hk
  isplitl [HO]; · iexact HO
  unfold pend posn
  isplitl [Hpos]
  · isplitl [Hpos]; · iexact Hpos
    iexact Hrc
  isplitl [Hps]
  · isplitl [Hps]; · iexact Hps
    iexact Hrs
  iexact Hd

/-! ### The other waits -/

theorem waitRs_wp (l : ℕ) (hl : l < 3) (m : List Debt) (hm : Above (3 + 2 * l) m) (Q : PUnit → SP F) :
    iprop(ctx I K ∗ owesE c m ∗ bigSep Finset.univ fun k : Fin 15 => pend (F := F) c (rs (pr c k)) l)
      ⊢ iprop(((owesE c m ∗ bigSep Finset.univ fun k : Fin 15 => iprop(posn (F := F) c (rs (pr c k)) (l + 1) ∗ row c rsM (pr c k) (I.P l (pr c k) c) ∗ agReady (F := F) c (l + 1) k)) -∗ Q ⟨⟩)
        -∗ WP c (waitRs rsM h9 xbM h11 cc0_scratch7 c) Q) := by
  unfold waitRs
  refine loop_wait I K c 15 _ _ _ m (fun k Q => ?_) Q
  unfold pend agReady
  iintro ⟨#Hc, HO, Hp, Hd⟩ Hk
  iapply (wait_cell I K c (.inr (.inr (pr c k))) l (pr c k) (by omega) (mem_rs c _ (pr_ne c k) hl) (loc_rsPeer c k)
    ((congrArg (fun m : Memref sig .tc .vmem S128x128 .bf16 => m.view.dmaCredit) (copy_eq rsM c k)).trans (N_rs _)) m hm Q) $$ [HO Hp Hd]
  · isplitr; · iexact Hc
    isplitl [HO]; · iexact HO
    isplitl [Hd] <;> iassumption
  iintro ⟨HO, Hp, Hr⟩
  iapply Hk
  isplitl [HO]; · iexact HO
  isplitl [Hp]; · iexact Hp
  iapply (Entails.of_eq (payF_rs I c (pr c k) l)); iexact Hr

theorem waitAgSend_wp (p : ℕ) (hp : p < 4) {src : Memref sig .tc .vmem S128x128 .bf16} (dst : Memref sig .tc .vmem S128x128 .bf16) {hs hd} (hN : dst.view.dmaCredit = N)
    (m : List Debt) (hm : Above (2 + 2 * p) m) (Q : PUnit → SP F) :
    iprop(ctx I K ∗ owesE c m ∗ bigSep Finset.univ fun k : Fin 15 => pend (F := F) c (agS k) p)
      ⊢ iprop(((owesE c m ∗ bigSep Finset.univ fun k : Fin 15 => iprop(posn (F := F) c (agS k) (p + 1) ∗ agSrc I c p k)) -∗ Q ⟨⟩)
        -∗ WP c (forN 15 fun k => Prog.lift (.waitDma2 (semSend cc0_scratch5 k) src dst hs hd)) Q) := by
  refine loop_wait I K c 15 _ _ _ m (fun k Q => ?_) Q
  unfold pend
  iintro ⟨#Hc, HO, Hp, Hd⟩ Hk
  iapply (wait_cell I K c (.inl (.inr k)) p c hp (mem_agS c k hp) (loc_agS k) hN m hm Q) $$ [HO Hp Hd]
  · isplitr; · iexact Hc
    isplitl [HO]; · iexact HO
    isplitl [Hd] <;> iassumption
  iexact Hk

theorem waitRsSend_wp (l : ℕ) (hl : l < 3) (m : List Debt) (hm : Above (3 + 2 * l) m) (Q : PUnit → SP F) :
    iprop(ctx I K ∗ owesE c m ∗ bigSep Finset.univ fun k : Fin 15 => pend (F := F) c (rsS k) l)
      ⊢ iprop(((owesE c m ∗ bigSep Finset.univ fun k : Fin 15 => iprop(posn (F := F) c (rsS k) (l + 1) ∗ rowAny (F := F) c pbM (pr c k))) -∗ Q ⟨⟩)
        -∗ WP c (waitRsSend rsM h9 pbM h10 cc0_scratch4 c) Q) := by
  unfold waitRsSend
  refine loop_wait I K c 15 _ _ _ m (fun k Q => ?_) Q
  unfold pend
  iintro ⟨#Hc, HO, Hp, Hd⟩ Hk
  iapply (wait_cell I K c (.inl (.inl k)) l c (by omega) (mem_rsS c k hl) (loc_rsS k)
    ((congrArg (fun m : Memref sig .tc .vmem S128x128 .bf16 => m.view.dmaCredit) (copy_eq pbM c k)).trans (N_pb _)) m hm Q) $$ [HO Hp Hd]
  · isplitr; · iexact Hc
    isplitl [HO]; · iexact HO
    isplitl [Hd] <;> iassumption
  iintro ⟨HO, Hp, Hr⟩
  iapply Hk
  isplitl [HO]; · iexact HO
  isplitl [Hp]; · iexact Hp
  ihave Hr' := (show payF I c (rsS k) l c ⊢ rowAny (F := F) c pbM (pr c k) from row_any c pbM (pr c k) _) $$ Hr
  iexact Hr'

theorem putX_wp (r : FVec F S128x128 .f32) (Q : PUnit → SP F) :
    rowAny (F := F) c xgM c ⊢ iprop((row c xgM c (roundB r) -∗ Q ⟨⟩) -∗ WP c (putX xgM h8 c r) Q) := by
  unfold putX
  iintro Hr Hk
  ihave Hr' := (show rowAny (F := F) c xgM c ⊢ iprop(∃ Y, row c xgM c Y) from .rfl) $$ Hr
  icases Hr' with ⟨%Y, Hr⟩
  rw [WP_bind]
  iapply (load_row c xgM c (k0_off1_eq c) _) $$ Hr
  iintro Hr
  iapply (store_blk c xgM c _ (k0_off1_eq c) _) $$ Hr
  iintro Hr
  iapply Hk; iexact Hr

end Parts

end Cert.Proof.KI

end
-- ==== Proof.Ideal.Layer.lean ====
/- For `KernelIdeal`, the program of the claims over the extended reals; the text is that of the module of the same name
   for `Kernel`.
   One layer: every peer's chunk, the reduction, and the next all-gather's copies. -/
module

public import proofs.«01_k».proof.Proof.Ideal.Parts

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Sharing a source among copies -/

/-- A share is the parts that the next `n` copies take and the rest. -/
theorem share_from (c : Dev nD) {sh : Shape} {e : EltTy} (m : Memref sig .tc .vmem sh e) (X : Vec F sh e) : (n i : ℕ) →
    (owns (c : Thread nD τ) m (rest i) X : SP F) ⊣⊢ iprop(owns (c : Thread nD τ) m (rest (i + n)) X
      ∗ bigSep Finset.univ fun k : Fin n => owns (c : Thread nD τ) m (part (i + k.val)) X)
  | 0, i => by
    rw [show (Finset.univ : Finset (Fin 0)) = ∅ from rfl, bigSep_empty]
    constructor
    · iintro H; isplitl [H]; · iexact H
      iempintro
    · iintro ⟨H, -⟩; iexact H
  | n + 1, i => by
    have hr : i + (n + 1) = (i + 1) + n := by omega
    have hk (k : Fin n) : i + k.succ.val = (i + 1) + k.val := by rw [Fin.val_succ]; omega
    rw [fin_succ, hr]
    simp only [hk]
    have ih := share_from c m X n (i + 1)
    have hh : (owns (c : Thread nD τ) m (rest i) X : SP F) ⊣⊢ iprop(owns (c : Thread nD τ) m (part i) X ∗ owns (c : Thread nD τ) m (rest (i + 1)) X) :=
      owns_halves _ _ _ X
    constructor
    · iintro H
      ihave H' := hh.1 $$ H
      icases H' with ⟨H0, H⟩
      ihave H' := ih.1 $$ H
      icases H' with ⟨Hr, H⟩
      isplitl [Hr]; · iexact Hr
      isplitl [H0]; · iexact H0
      iexact H
    · iintro ⟨Hr, H0, H⟩
      iapply hh.2
      isplitl [H0]; · iexact H0
      iapply ih.2
      isplitl [Hr] <;> iassumption

/-- A whole memref is the fifteen copies' parts and the rest. -/
theorem share15 (c : Dev nD) {sh : Shape} {e : EltTy} (m : Memref sig .tc .vmem sh e) (X : Vec F sh e) :
    (owns (c : Thread nD τ) m fullShare X : SP F) ⊣⊢ iprop(owns (c : Thread nD τ) m (rest 15) X
      ∗ bigSep Finset.univ fun k : Fin 15 => owns (c : Thread nD τ) m (part k.val) X) := by
  have h := share_from (F := F) c m X 15 0
  simp only [Nat.zero_add] at h
  exact h

section Layer

variable (h8 : xgM.IsWhole) (h9 : rsM.IsWhole) (h10 : pbM.IsWhole) (h11 : xbM.IsWhole)
variable (I : Ins F) (K : Dev nD × CK → ℕ) (c : Dev nD)

/-- What the device keeps of its own rows while the copies of phase `p` are in flight. -/
def mine (p : ℕ) : SP F :=
  if p = 0 then iprop(owns (c : Thread nD τ) xbM (rest 15) (I.X 0 c) ∗ row c xgM c (I.X 0 c))
  else iprop(owns (c : Thread nD τ) xbM fullShare (I.X 0 c) ∗ owns (c : Thread nD τ) (blk xgM c) (rest 15) (I.X p c))

/-- The device's rows, whole, are what it keeps and the copies' parts. -/
theorem mine_iff (p : ℕ) : iprop(owns (c : Thread nD τ) xbM fullShare (I.X 0 c) ∗ row c xgM c (I.X p c))
    ⊣⊢ iprop(mine I c p ∗ bigSep Finset.univ fun k : Fin 15 => agSrc I c p k) := by
  by_cases hp : p = 0
  · subst hp
    have h1 : mine I c 0 = iprop(owns (c : Thread nD τ) xbM (rest 15) (I.X 0 c) ∗ row c xgM c (I.X 0 c)) := if_pos rfl
    have h2 (k : Fin 15) : agSrc I c 0 k = owns (c : Thread nD τ) xbM (part k.val) (I.X 0 c) := if_pos rfl
    have h := share15 (F := F) c xbM (I.X 0 c)
    simp only [h1, h2]
    constructor
    · iintro ⟨Hb, Hr⟩
      ihave Hb' := h.1 $$ Hb
      icases Hb' with ⟨Hb, H⟩
      isplitl [Hb Hr]
      · isplitl [Hb] <;> iassumption
      iexact H
    · iintro ⟨⟨Hb, Hr⟩, H⟩
      isplitl [Hb H]
      · iapply h.2
        isplitl [Hb] <;> iassumption
      iexact Hr
  · have h1 : mine I c p = iprop(owns (c : Thread nD τ) xbM fullShare (I.X 0 c) ∗ owns (c : Thread nD τ) (blk xgM c) (rest 15) (I.X p c)) := if_neg hp
    have h2 (k : Fin 15) : agSrc I c p k = owns (c : Thread nD τ) (blk xgM c) (part k.val) (I.X p c) := if_neg hp
    have h := share15 (F := F) c (blk xgM c) (I.X p c)
    simp only [h1, h2]
    unfold row
    constructor
    · iintro ⟨Hb, Hr⟩
      ihave Hr' := h.1 $$ Hr
      icases Hr' with ⟨Hr, H⟩
      isplitl [Hb Hr]
      · isplitl [Hb] <;> iassumption
      iexact H
    · iintro ⟨⟨Hb, Hr⟩, H⟩
      isplitl [Hb]; · iexact Hb
      iapply h.2
      isplitl [Hr] <;> iassumption

/-- The device's rows can be read from what it keeps. -/
theorem load_mine (p : ℕ) {off : Fin 2 → Nat} {h : ∀ a, off a + S128x128.size a ≤ S2048x128.size a} (hoff : off = ![128 * c.val, 0])
    (Q : Vec F S128x128 .bf16 → SP F) : mine I c p ⊢ iprop((mine I c p -∗ Q (I.X p c)) -∗ WP c (loadRows xgM off h) Q) := by
  unfold mine
  split
  · rename_i hp
    subst hp
    iintro ⟨Hb, Hr⟩ Hk
    iapply (load_row c xgM c hoff _) $$ Hr
    iintro Hr
    iapply Hk
    isplitl [Hb] <;> iassumption
  · iintro ⟨Hb, Hr⟩ Hk
    iapply (load_blk c xgM c hoff _) $$ Hr
    iintro Hr
    iapply Hk
    isplitl [Hb] <;> iassumption

/-! ## The reduction -/

theorem myIx_eq : ∀ c s : Fin 16, Scalar.cmpi .eq (myIx c) (BitVec.ofNat 32 s.val) = if s = c then 1#1 else 0#1 := by decide +kernel

theorem redStep_eq (s : Fin 16) (acc : FVec F S128x128 .f32) (v : Vec F S128x128 .bf16) :
    redStep (myIx c) (BitVec.ofNat 32 s.val) acc v = Ins.addIf c acc s v := by
  unfold redStep Ins.addIf Scalar.select
  rw [myIx_eq]
  by_cases h : s = c
  · rw [if_pos h, if_pos (by decide), if_pos h]
  · rw [if_neg h, if_neg (by decide), if_neg h]

theorem WP_pure {α : Type} (a : α) (Q : α → SP F) : WP c (pure a) Q = iprop(|={Set.univ}=> Q a) := WP_ret c a Q

theorem reduce_wp (own : FVec F S128x128 .f32) (P : Dev nD → Vec F S128x128 .bf16) (Q : FVec F S128x128 .f32 → SP F) :
    iprop(rowAny (F := F) c rsM c ∗ bigSep Finset.univ fun k : Fin 15 => row c rsM (pr c k) (P (pr c k)))
      ⊢ iprop(((rowAny (F := F) c rsM c ∗ bigSep Finset.univ fun k : Fin 15 => row c rsM (pr c k) (P (pr c k))) -∗ Q (Ins.redOf c own P))
        -∗ WP c (reduce rsM (myIx c) own) Q) := by
  unfold rowAny
  iintro ⟨⟨%Y, H0⟩, H⟩ Hk
  have hV : (bigSep Finset.univ fun s : Fin 16 => row c rsM s (if s = c then Y else P s) : SP F)
      = iprop(row c rsM c Y ∗ bigSep Finset.univ fun k : Fin 15 => row c rsM (pr c k) (P (pr c k))) := by
    rw [bigSep_all c, if_pos rfl]
    simp only [if_neg (pr_ne c _)]
  have hr : (List.finRange 16).foldl (fun a s => redStep (myIx c) (BitVec.ofNat 32 s.val) a (if s = c then Y else P s)) own = Ins.redOf c own P := by
    unfold Ins.redOf
    congr 1
    funext a s
    rw [redStep_eq]
    unfold Ins.addIf
    by_cases h : s = c
    · rw [if_pos h, if_pos h]
    · rw [if_neg h, if_neg h, if_neg h]
  unfold reduce
  ihave Hall := (Entails.of_eq hV.symm) $$ [H0 H]
  · isplitl [H0] <;> iassumption
  iapply (loop_fold c 16 _ (fun s : Fin 16 => row c rsM s (if s = c then Y else P s))
    (fun a s => redStep (myIx c) (BitVec.ofNat 32 s.val) a (if s = c then Y else P s)) (fun s a Q => ?_) own Q) $$ Hall
  rotate_left 1
  · iintro Hall
    ihave Hall' := (Entails.of_eq hV) $$ Hall
    icases Hall' with ⟨H0, H⟩
    rw [hr]
    iapply Hk
    isplitl [H0]; · iexists Y; iexact H0
    iexact H
  · iintro H Hk
    rw [WP_bind]
    iapply (load_row c rsM s rfl _) $$ H
    iintro H
    rw [WP_pure]
    imodintro
    iapply Hk; iexact H

/-! ## A layer -/

/-- What the device holds of the dealings with peer `k` when layer `l` starts. -/
def atLayer (l : ℕ) (k : Fin 15) : SP F :=
  iprop(pend (F := F) c (agS k) l ∗ posn (F := F) c (ag (pr c k)) l ∗ posn (F := F) c (rs (pr c k)) l ∗ posn (F := F) c (rsS k) l
    ∗ rowAny (F := F) c pbM (pr c k) ∗ (if l < 3 then iprop(emp) else rowAny (F := F) c rsM (pr c k)))
/-- The rights that layer `l` uses up with peer `k`. -/
def fuel (l : ℕ) (k : Fin 15) : SP F :=
  iprop(due (F := F) c (ag (pr c k)) l ∗ due (F := F) c (rs (pr c k)) l ∗ rsTok (F := F) c l k ∗ agTok (F := F) c (l + 1) k)

theorem layerA_wp (l : ℕ) (hl : l < 3) (a : Memref sig .tc .vmem S128x256 .f32) (b : Memref sig .tc .vmem S256x128 .f32) {q₁ q₂ : PosShare TreeShare}
    (dev : Fin 15 → Dev nD) (hdev : ∀ k, dev k = pr c k) (m : List Debt) (hm : Above (3 + 2 * l) m) (Q : FVec F S128x128 .f32 → SP F) :
    iprop(ctx I K ∗ owesE c (rsD c l ++ m) ∗ owns (c : Thread nD τ) a q₁ (I.w1 l c) ∗ owns (c : Thread nD τ) b q₂ (I.w2 l c) ∗ mine I c l ∗ rowAny (F := F) c rsM c
        ∗ (bigSep Finset.univ fun k : Fin 15 => chunkPre (F := F) c l k) ∗ bigSep Finset.univ fun k : Fin 15 => pend (F := F) c (rs (pr c k)) l)
      ⊢ iprop(((owesE c m ∗ owns (c : Thread nD τ) a q₁ (I.w1 l c) ∗ owns (c : Thread nD τ) b q₂ (I.w2 l c) ∗ mine I c l ∗ rowAny (F := F) c rsM c
          ∗ (bigSep Finset.univ fun k : Fin 15 => chunkPost (F := F) c l k) ∗ (bigSep Finset.univ fun k : Fin 15 => posn (F := F) c (rs (pr c k)) (l + 1))
          ∗ (bigSep Finset.univ fun k : Fin 15 => row c rsM (pr c k) (I.P l (pr c k) c)) ∗ bigSep Finset.univ fun k : Fin 15 => agReady (F := F) c (l + 1) k) -∗ Q (I.red l c))
        -∗ WP c (layerA xgM h8 rsM h9 pbM h10 xbM h11 cc0_scratch4 cc0_scratch6 cc0_scratch7 a b dev c (myIx c)) Q) := by
  have hred : I.red l c = Ins.redOf c (I.part l c (I.X l c)) (fun s => I.P l s c) := rfl
  rw [hred]
  iintro ⟨#Hc, HO, Ha, Hb, Hm, Hrs, Hch, Hpr⟩ Hk
  unfold layerA
  rw [WP_bind]
  iapply (load_all c a zero2 _) $$ Ha
  iintro Ha
  rw [WP_bind]
  iapply (load_all c b zero2 _) $$ Hb
  iintro Hb
  rw [WP_bind]
  iapply (load_mine I c l (own_off c) _) $$ Hm
  iintro Hm
  rw [WP_bind]
  iapply (loop_pay I K c (Above (2 + 2 * l)) (fun e l' h x hx => h x (List.mem_append.mpr (Or.inr hx))) 15 _ _ (fun k => chunkPost (F := F) c l k) _ m
    ((above_rs c l _ hl (by omega)).append (hm.mono (by omega))) (fun k l' Q hl' => chunk_wp h8 h9 h10 h11 I K c l hl dev hdev k l' hl' Q) _) $$ [HO Hch]
  · isplitr; · iexact Hc
    isplitl [HO]; · iexact HO
    iexact Hch
  iintro ⟨HO, Hch⟩
  rw [WP_bind]
  iapply (waitRs_wp h9 h11 I K c l hl m hm _) $$ [HO Hpr]
  · isplitr; · iexact Hc
    isplitl [HO]; · iexact HO
    iexact Hpr
  rw [bigSep_sep', bigSep_sep']
  iintro ⟨HO, Hpr, Hrows, Hrd⟩
  iapply (reduce_wp c (I.part l c (I.X l c)) (fun s => I.P l s c) _) $$ [Hrs Hrows]
  · isplitl [Hrs] <;> iassumption
  iintro ⟨Hrs, Hrows⟩
  iapply Hk
  isplitl [HO]; · iexact HO
  isplitl [Ha]; · iexact Ha
  isplitl [Hb]; · iexact Hb
  isplitl [Hm]; · iexact Hm
  isplitl [Hrs]; · iexact Hrs
  isplitl [Hch]; · iexact Hch
  isplitl [Hpr]; · iexact Hpr
  isplitl [Hrows] <;> iassumption

theorem layer_in₁ (l : ℕ) (k : Fin 15) : iprop(atLayer (F := F) c l k ∗ fuel (F := F) c l k)
    ⊢ iprop(chunkPre (F := F) c l k ∗ pend (F := F) c (rs (pr c k)) l ∗ pend (F := F) c (agS k) l ∗ agTok (F := F) c (l + 1) k) := by
  unfold atLayer fuel chunkPre pend
  iintro ⟨⟨⟨Ha, Hd⟩, Hag, Hrs, Hps, Hpb, -⟩, Hda, Hdr, Ht, Ht'⟩
  isplitl [Hag Hda Hpb Ht Hps]
  · isplitl [Hag Hda]
    · isplitl [Hag] <;> iassumption
    isplitl [Hpb]; · iexact Hpb
    isplitl [Ht] <;> iassumption
  isplitl [Hrs Hdr]
  · isplitl [Hrs] <;> iassumption
  isplitl [Ha Hd]
  · isplitl [Ha] <;> iassumption
  iexact Ht'
theorem layer_in (l : ℕ) : iprop((bigSep Finset.univ fun k : Fin 15 => atLayer (F := F) c l k) ∗ bigSep Finset.univ fun k : Fin 15 => fuel (F := F) c l k)
    ⊢ iprop((bigSep Finset.univ fun k : Fin 15 => chunkPre (F := F) c l k) ∗ (bigSep Finset.univ fun k : Fin 15 => pend (F := F) c (rs (pr c k)) l)
      ∗ (bigSep Finset.univ fun k : Fin 15 => pend (F := F) c (agS k) l) ∗ bigSep Finset.univ fun k : Fin 15 => agTok (F := F) c (l + 1) k) := by
  rw [← bigSep_sep', ← bigSep_sep', ← bigSep_sep', ← bigSep_sep']
  exact bigSep_mono fun k _ => layer_in₁ c l k

/-- A place for a partial product that is free again goes out with the next phase's copy, or stays after the last. -/
theorem open_slot (p : ℕ) (k : Fin 15) (X : Vec F S128x128 .bf16) :
    iprop(posn (F := F) c (rs (pr c k)) p ∗ row c rsM (pr c k) X)
      ⊢ iprop(posn (F := F) c (rs (pr c k)) p ∗ rsSlot F c (pr c k) p ∗ (if p < 3 then iprop(emp) else rowAny (F := F) c rsM (pr c k))) := by
  unfold posn rsSlot
  iintro ⟨⟨Ha, #Hr⟩, Hx⟩
  isplitl [Ha]
  · isplitl [Ha]; · iexact Ha
    iexact Hr
  split
  · isplitl [Hx]
    · isplitl [Hx]; · iapply (row_any c rsM (pr c k) X); iexact Hx
      iexact Hr
    iempintro
  · isplitr; · iempintro
    iapply (row_any c rsM (pr c k) X); iexact Hx

/-- A layer, its reduction given on to `k`. -/
theorem layer_wp (l : ℕ) (hl : l < 3) (a : Memref sig .tc .vmem S128x256 .f32) (b : Memref sig .tc .vmem S256x128 .f32) {q₁ q₂ : PosShare TreeShare}
    (rdev adev : Fin 15 → Dev nD) (hrdev : ∀ k, rdev k = pr c k) (hadev : ∀ k, adev k = pr c k) (was : TP F PUnit)
    (hwas : ∀ (m : List Debt) (_ : Above (2 + 2 * l) m) (Q : PUnit → SP F),
      iprop(ctx I K ∗ owesE c m ∗ bigSep Finset.univ fun k : Fin 15 => pend (F := F) c (agS k) l)
        ⊢ iprop(((owesE c m ∗ bigSep Finset.univ fun k : Fin 15 => iprop(posn (F := F) c (agS k) (l + 1) ∗ agSrc I c l k)) -∗ Q ⟨⟩) -∗ WP c was Q))
    (k : FVec F S128x128 .f32 → TP F PUnit) (Q : PUnit → SP F) :
    iprop(ctx I K ∗ owesE c (tailD c l) ∗ owns (c : Thread nD τ) a q₁ (I.w1 l c) ∗ owns (c : Thread nD τ) b q₂ (I.w2 l c) ∗ mine I c l ∗ rowAny (F := F) c rsM c
        ∗ (bigSep Finset.univ fun k : Fin 15 => atLayer (F := F) c l k) ∗ bigSep Finset.univ fun k : Fin 15 => fuel (F := F) c l k)
      ⊢ iprop(((owesE c (tailD c (l + 1)) ∗ owns (c : Thread nD τ) a q₁ (I.w1 l c) ∗ owns (c : Thread nD τ) b q₂ (I.w2 l c) ∗ mine I c (l + 1) ∗ rowAny (F := F) c rsM c
          ∗ bigSep Finset.univ fun k : Fin 15 => atLayer (F := F) c (l + 1) k) -∗ WP c (k (I.red l c)) Q)
        -∗ WP c (layerA xgM h8 rsM h9 pbM h10 xbM h11 cc0_scratch4 cc0_scratch6 cc0_scratch7 a b rdev c (myIx c) >>= fun r => was >>= fun _ => putX xgM h8 c r >>= fun _ =>
            agN xgM h8 cc0_scratch5 cc0_scratch6 adev c >>= fun _ => waitRsSend rsM h9 pbM h10 cc0_scratch4 c >>= fun _ => k r) Q) := by
  rw [tailD_eq c l hl]
  have hab : Above (3 + 2 * l) (agD c (l + 1) ++ tailD c (l + 1)) := (above_ag c (l + 1) _ (by omega) (by omega)).append (above_tail c (l + 1) _ (by omega))
  iintro ⟨#Hc, HO, Ha, Hb, Hm, Hrs, Hat, Hf⟩ Hk
  ihave H := (layer_in (F := F) c l) $$ [Hat Hf]
  · isplitl [Hat] <;> iassumption
  icases H with ⟨Hch, Hpr, Hpa, Htok⟩
  rw [WP_bind]
  iapply (layerA_wp h8 h9 h10 h11 I K c l hl a b rdev hrdev _ hab _) $$ [HO Ha Hb Hm Hrs Hch Hpr]
  · isplitr; · iexact Hc
    isplitl [HO]; · iexact HO
    isplitl [Ha]; · iexact Ha
    isplitl [Hb]; · iexact Hb
    isplitl [Hm]; · iexact Hm
    isplitl [Hrs]; · iexact Hrs
    isplitl [Hch]; · iexact Hch
    iexact Hpr
  iintro ⟨HO, Ha, Hb, Hm, Hrs, Hch, Hpr, Hrows, Hrd⟩
  rw [WP_bind]
  iapply (hwas _ (hab.mono (by omega)) _) $$ [HO Hpa]
  · isplitr; · iexact Hc
    isplitl [HO]; · iexact HO
    iexact Hpa
  rw [bigSep_sep']
  iintro ⟨HO, Hpa, Hsrc⟩
  ihave Hw := (mine_iff I c l).2 $$ [Hm Hsrc]
  · isplitl [Hm] <;> iassumption
  icases Hw with ⟨Hxb, Hx⟩
  rw [WP_bind]
  iapply (putX_wp h8 c (I.red l c) _) $$ [Hx]
  · iapply (row_any c xgM c _); iexact Hx
  iintro Hx
  ihave Hw := (mine_iff I c (l + 1)).1 $$ [Hxb Hx]
  · isplitl [Hxb]; · iexact Hxb
    iexact Hx
  icases Hw with ⟨Hm, Hsrc⟩
  have hslots : iprop((bigSep Finset.univ fun k : Fin 15 => posn (F := F) c (rs (pr c k)) (l + 1)) ∗ bigSep Finset.univ fun k : Fin 15 => row c rsM (pr c k) (I.P l (pr c k) c))
      ⊢ iprop((bigSep Finset.univ fun k : Fin 15 => posn (F := F) c (rs (pr c k)) (l + 1)) ∗ (bigSep Finset.univ fun k : Fin 15 => rsSlot F c (pr c k) (l + 1))
        ∗ bigSep Finset.univ fun k : Fin 15 => (if l + 1 < 3 then iprop(emp) else rowAny (F := F) c rsM (pr c k))) := by
    rw [← bigSep_sep', ← bigSep_sep', ← bigSep_sep']
    exact bigSep_mono fun k _ => open_slot c (l + 1) k _
  ihave Hsl := hslots $$ [Hpr Hrows]
  · isplitl [Hpr]; · iexact Hpr
    iexact Hrows
  icases Hsl with ⟨Hpr, Hslot, Hkept⟩
  rw [WP_bind]
  iapply (ag_wp I K c (l + 1) (by omega) _ (blk xgM c) (src_eq xgM c) (fun k => if_neg (Nat.succ_ne_zero l)) adev hadev (tailD c (l + 1)) _) $$ [HO Htok Hpa Hrd Hslot Hsrc]
  · isplitr; · iexact Hc
    isplitl [HO]; · iexact HO
    rw [bigSep_sep', bigSep_sep', bigSep_sep', bigSep_sep']
    isplitl [Htok]; · iexact Htok
    isplitl [Hpa]; · iexact Hpa
    isplitl [Hrd]; · iexact Hrd
    isplitl [Hslot]; · iexact Hslot
    iexact Hsrc
  iintro ⟨HO, Hpa⟩
  have hch : (bigSep Finset.univ fun k : Fin 15 => chunkPost (F := F) c l k) = iprop((bigSep Finset.univ fun k : Fin 15 => posn (F := F) c (ag (pr c k)) (l + 1))
      ∗ bigSep Finset.univ fun k : Fin 15 => pend (F := F) c (rsS k) l) := bigSep_sep' _ _ _
  ihave Hch' := (Entails.of_eq hch) $$ Hch
  icases Hch' with ⟨Hag, Hpd⟩
  rw [WP_bind]
  iapply (waitRsSend_wp h9 h10 I K c l hl _ (above_tail c (l + 1) _ (by omega)) _) $$ [HO Hpd]
  · isplitr; · iexact Hc
    isplitl [HO]; · iexact HO
    iexact Hpd
  rw [bigSep_sep']
  iintro ⟨HO, Hps, Hpb⟩
  iapply Hk
  isplitl [HO]; · iexact HO
  isplitl [Ha]; · iexact Ha
  isplitl [Hb]; · iexact Hb
  isplitl [Hm]; · iexact Hm
  isplitl [Hrs]; · iexact Hrs
  unfold atLayer
  rw [bigSep_sep', bigSep_sep', bigSep_sep', bigSep_sep', bigSep_sep']
  isplitl [Hpa]; · iexact Hpa
  isplitl [Hag]; · iexact Hag
  isplitl [Hpr]; · iexact Hpr
  isplitl [Hps]; · iexact Hps
  isplitl [Hpb] <;> iassumption

end Layer

end Cert.Proof.KI

end
-- ==== Proof.Ideal.Body.lean ====
/- For `KernelIdeal`, the program of the claims over the extended reals; the text is that of the module of the same name
   for `Kernel`.
   The whole body of one device. -/
module

public import proofs.«01_k».proof.Proof.Ideal.Layer
public import Idealize.SL.ProofMode.BigOp

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

variable (h8 : xgM.IsWhole) (h9 : rsM.IsWhole) (h10 : pbM.IsWhole) (h11 : xbM.IsWhole)
variable (I : Ins F) (K : Dev nD × CK → ℕ) (c : Dev nD)

theorem WP_deviceId (Q : Dev nD → SP F) : Q c ⊢ WP c (Prog.lift .deviceId) Q := by
  iintro H
  simp only [Prog.lift, wp_deviceId, wp_ret]
  imodintro
  iexact H

/-! ## The result -/

theorem out_own : I.out c c = I.red 2 c := if_pos rfl
theorem out_peer (k : Fin 15) : I.out c (pr c k) = extf .f32 (I.X 3 (pr c k)) bitsLt_bf16_f32 := if_neg (pr_ne c k)

theorem finish_wp (o : Memref sig .tc .vmem S2048x128 .f32) (m : List Debt) (hm : Above 8 m) (Q : PUnit → SP F) :
    iprop(ctx I K ∗ owesE c m ∗ rowAny (F := F) c o c ∗ (bigSep Finset.univ fun k : Fin 15 => rowAny (F := F) c o (pr c k))
        ∗ bigSep Finset.univ fun k : Fin 15 => pend (F := F) c (ag (pr c k)) 3)
      ⊢ iprop(((owesE c m ∗ row c o c (I.out c c) ∗ (bigSep Finset.univ fun k : Fin 15 => row c o (pr c k) (I.out c (pr c k)))
          ∗ (bigSep Finset.univ fun k : Fin 15 => posn (F := F) c (ag (pr c k)) 4) ∗ bigSep Finset.univ fun k : Fin 15 => rowAny (F := F) c xgM (pr c k)) -∗ Q ⟨⟩)
        -∗ WP c (finish o xgM h8 xbM h11 cc0_scratch6 c (I.red 2 c)) Q) := by
  rw [out_own]
  iintro ⟨#Hc, HO, Ho, Hos, Hp⟩ Hk
  ihave Ho' := (show rowAny (F := F) c o c ⊢ iprop(∃ Y, row c o c Y) from .rfl) $$ Ho
  icases Ho' with ⟨%Y, Ho⟩
  unfold finish
  rw [WP_bind]
  iapply (load_row c o c (k0_off1_eq c) _) $$ Ho
  iintro Ho
  rw [WP_bind]
  iapply (store_blk c o c _ (k0_off1_eq c) _) $$ Ho
  iintro Ho
  iapply (loop_wait I K c 15 _ (fun k => iprop(rowAny (F := F) c o (pr c k) ∗ pend (F := F) c (ag (pr c k)) 3))
    (fun k => iprop(row c o (pr c k) (I.out c (pr c k)) ∗ posn (F := F) c (ag (pr c k)) 4 ∗ rowAny (F := F) c xgM (pr c k))) m (fun k Q => ?_) Q) $$ [HO Hos Hp]
  rotate_left 1
  · isplitr; · iexact Hc
    isplitl [HO]; · iexact HO
    rw [bigSep_sep']
    isplitl [Hos]; · iexact Hos
    iexact Hp
  · rw [bigSep_sep', bigSep_sep']
    iintro ⟨HO, Hos, Hp, Hx⟩
    iapply Hk
    isplitl [HO]; · iexact HO
    isplitl [Ho]; · iexact Ho
    isplitl [Hos]; · iexact Hos
    isplitl [Hp]; · iexact Hp
    iexact Hx
  · rw [out_peer]
    iintro ⟨#Hc, HO, Ho, Hp⟩ Hk
    ihave Ho' := (show rowAny (F := F) c o (pr c k) ⊢ iprop(∃ Y, row c o (pr c k) Y) from .rfl) $$ Ho
    icases Ho' with ⟨%Y, Ho⟩
    rw [WP_bind]
    iapply (waitAg_wp h8 h11 I K c k 3 (by omega) m hm _) $$ [HO Hp]
    · isplitr; · iexact Hc
      isplitl [HO] <;> iassumption
    iintro ⟨HO, Hp, Hx, -⟩
    rw [WP_bind]
    iapply (load_row c xgM (pr c k) (peer_off c k) _) $$ Hx
    iintro Hx
    rw [WP_bind]
    iapply (load_row c o (pr c k) (peer_off c k) _) $$ Ho
    iintro Ho
    iapply (store_blk c o (pr c k) _ (peer_off c k) _) $$ Ho
    iintro Ho
    iapply Hk
    isplitl [HO]; · iexact HO
    isplitl [Ho]; · iexact Ho
    isplitl [Hp]; · iexact Hp
    iapply (row_any c xgM (pr c k) _); iexact Hx

/-! ## The first copies -/

/-- What the device holds of the dealings with peer `k` at the start. -/
def atStart (k : Fin 15) : SP F :=
  iprop(posn (F := F) c (agS k) 0 ∗ posn (F := F) c (ag (pr c k)) 0 ∗ posn (F := F) c (rs (pr c k)) 0 ∗ posn (F := F) c (rsS k) 0)
/-- What it holds of them at the end. -/
def atEnd (k : Fin 15) : SP F :=
  iprop(posn (F := F) c (agS k) 4 ∗ posn (F := F) c (ag (pr c k)) 4 ∗ posn (F := F) c (rs (pr c k)) 3 ∗ posn (F := F) c (rsS k) 3)

theorem open_first (k : Fin 15) :
    iprop(ctx I K ∗ atStart (F := F) c k ∗ rowAny (F := F) (pr c k) xgM c ∗ rowAny (F := F) c rsM (pr c k))
      ⊢ iprop(atStart (F := F) c k ∗ agReady (F := F) c 0 k ∗ rsSlot F c (pr c k) 0) := by
  rw [rsSlot_pos c (pr c k) (by decide)]
  unfold agReady
  iintro ⟨#Hc, Ha, Hx, Hr⟩
  isplitl [Ha]; · iexact Ha
  isplitl [Hx]
  · isplitl [Hx]; · iexact Hx
    iapply (ctx_reached I K (pr c k) (ag c)); iexact Hc
  isplitl [Hr]; · iexact Hr
  iapply (ctx_reached I K c (rs (pr c k))); iexact Hc

theorem ag0_wp (m : List Debt) (Q : PUnit → SP F) :
    iprop(ctx I K ∗ owesE c (agD c 0 ++ m) ∗ owns (c : Thread nD τ) xbM fullShare (I.X 0 c) ∗ row c xgM c (I.X 0 c)
        ∗ (bigSep Finset.univ fun k : Fin 15 => agTok (F := F) c 0 k) ∗ (bigSep Finset.univ fun k : Fin 15 => atStart (F := F) c k)
        ∗ (bigSep Finset.univ fun k : Fin 15 => rowAny (F := F) (pr c k) xgM c) ∗ (bigSep Finset.univ fun k : Fin 15 => rowAny (F := F) c rsM (pr c k))
        ∗ bigSep Finset.univ fun k : Fin 15 => rowAny (F := F) c pbM (pr c k))
      ⊢ iprop(((owesE c m ∗ mine I c 0 ∗ bigSep Finset.univ fun k : Fin 15 => atLayer (F := F) c 0 k) -∗ Q ⟨⟩)
        -∗ WP c (ag0 xgM h8 xbM h11 cc0_scratch5 cc0_scratch6 c) Q) := by
  iintro ⟨#Hc, HO, Hxb, Hx, Ht, Ha, Hpl, Hrs, Hpb⟩ Hk
  have hopen : iprop(ctx I K ∗ ((bigSep Finset.univ fun k : Fin 15 => atStart (F := F) c k) ∗ (bigSep Finset.univ fun k : Fin 15 => rowAny (F := F) (pr c k) xgM c)
        ∗ bigSep Finset.univ fun k : Fin 15 => rowAny (F := F) c rsM (pr c k)))
      ⊢ iprop((bigSep Finset.univ fun k : Fin 15 => atStart (F := F) c k) ∗ (bigSep Finset.univ fun k : Fin 15 => agReady (F := F) c 0 k)
        ∗ bigSep Finset.univ fun k : Fin 15 => rsSlot F c (pr c k) 0) := by
    rw [← bigSep_sep', ← bigSep_sep', ← bigSep_sep', ← bigSep_sep']
    exact bigSep_with_persistent fun k _ => open_first I K c k
  ihave Hop := hopen $$ [Ha Hpl Hrs]
  · isplitr; · iexact Hc
    isplitl [Ha]; · iexact Ha
    isplitl [Hpl]; · iexact Hpl
    iexact Hrs
  icases Hop with ⟨Ha, Hrd, Hsl⟩
  ihave Hw := (mine_iff I c 0).1 $$ [Hxb Hx]
  · isplitl [Hxb]; · iexact Hxb
    iexact Hx
  icases Hw with ⟨Hm, Hsrc⟩
  have hst : (bigSep Finset.univ fun k : Fin 15 => atStart (F := F) c k) = iprop((bigSep Finset.univ fun k : Fin 15 => posn (F := F) c (agS k) 0)
      ∗ (bigSep Finset.univ fun k : Fin 15 => posn (F := F) c (ag (pr c k)) 0) ∗ (bigSep Finset.univ fun k : Fin 15 => posn (F := F) c (rs (pr c k)) 0)
      ∗ bigSep Finset.univ fun k : Fin 15 => posn (F := F) c (rsS k) 0) := by
    unfold atStart; rw [bigSep_sep', bigSep_sep', bigSep_sep']
  ihave Ha' := (Entails.of_eq hst) $$ Ha
  icases Ha' with ⟨Hpa, Hag, Hpr, Hps⟩
  unfold ag0
  iapply (ag_wp I K c 0 (by omega) xbM xbM rfl (fun k => if_pos rfl) (agDev0 c) (agDev0_eq c) m _) $$ [HO Ht Hpa Hrd Hsl Hsrc]
  · isplitr; · iexact Hc
    isplitl [HO]; · iexact HO
    rw [bigSep_sep', bigSep_sep', bigSep_sep', bigSep_sep']
    isplitl [Ht]; · iexact Ht
    isplitl [Hpa]; · iexact Hpa
    isplitl [Hrd]; · iexact Hrd
    isplitl [Hsl]; · iexact Hsl
    iexact Hsrc
  iintro ⟨HO, Hpa⟩
  iapply Hk
  isplitl [HO]; · iexact HO
  isplitl [Hm]; · iexact Hm
  unfold atLayer
  rw [bigSep_sep', bigSep_sep', bigSep_sep', bigSep_sep', bigSep_sep']
  isplitl [Hpa]; · iexact Hpa
  isplitl [Hag]; · iexact Hag
  isplitl [Hpr]; · iexact Hpr
  isplitl [Hps]; · iexact Hps
  isplitl [Hpb]; · iexact Hpb
  rw [bigSep_congr (fun k _ => (if_pos (by decide) : (if 0 < 3 then iprop(emp) else rowAny (F := F) c rsM (pr c k)) = iprop(emp)))]
  iapply (show (iprop(emp) : SP F) ⊢ bigSep (Finset.univ : Finset (Fin 15)) fun _ => iprop(emp) from Entails.of_eq (bigSep_emp_const _).symm)
  iempintro

/-! ## The body -/

/-- What the body uses besides its windows: the right to the handshake, the scratch, and the dealings with every peer. -/
def bodyPre : SP F :=
  iprop(owesE c (allD c) ∗ cred (tallyAt (kcell c bar) 0 15) ∗ posn (F := F) c bar 0 ∗ (∃ X, owns (c : Thread nD τ) xbM fullShare X)
    ∗ rowAny (F := F) c xgM c ∗ rowAny (F := F) c rsM c
    ∗ (bigSep Finset.univ fun k : Fin 15 => rowAny (F := F) c xgM (pr c k)) ∗ (bigSep Finset.univ fun k : Fin 15 => rowAny (F := F) c rsM (pr c k))
    ∗ (bigSep Finset.univ fun k : Fin 15 => rowAny (F := F) c pbM (pr c k))
    ∗ (bigSep Finset.univ fun k : Fin 15 => dutyTok ER (kcell (pr c k) bar) 0 c) ∗ (bigSep Finset.univ fun k : Fin 15 => atStart (F := F) c k)
    ∗ (bigSep Finset.univ fun k : Fin 15 => agTok (F := F) c 0 k)
    ∗ (bigSep Finset.univ fun k : Fin 15 => fuel (F := F) c 0 k) ∗ (bigSep Finset.univ fun k : Fin 15 => fuel (F := F) c 1 k)
    ∗ (bigSep Finset.univ fun k : Fin 15 => fuel (F := F) c 2 k) ∗ bigSep Finset.univ fun k : Fin 15 => due (F := F) c (ag (pr c k)) 3)
/-- What it leaves besides its windows. -/
def bodyPost : SP F :=
  iprop(owesE c [] ∗ posn (F := F) c bar 1 ∗ (∃ X, owns (c : Thread nD τ) xbM fullShare X)
    ∗ rowAny (F := F) c xgM c ∗ rowAny (F := F) c rsM c
    ∗ (bigSep Finset.univ fun k : Fin 15 => rowAny (F := F) c xgM (pr c k)) ∗ (bigSep Finset.univ fun k : Fin 15 => rowAny (F := F) c rsM (pr c k))
    ∗ (bigSep Finset.univ fun k : Fin 15 => rowAny (F := F) c pbM (pr c k)) ∗ bigSep Finset.univ fun k : Fin 15 => atEnd (F := F) c k)

/-- The windows' contents while the body runs, but for the result's. -/
def wins (a0 : Memref sig .tc .vmem S128x128 .f32) (a1 : Memref sig .tc .vmem S128x256 .f32) (a2 : Memref sig .tc .vmem S256x128 .f32)
    (a3 : Memref sig .tc .vmem S128x256 .f32) (a4 : Memref sig .tc .vmem S256x128 .f32) (a5 : Memref sig .tc .vmem S128x256 .f32)
    (a6 : Memref sig .tc .vmem S256x128 .f32) (q : Fin 7 → PosShare TreeShare) : SP F :=
  iprop(owns (c : Thread nD τ) a0 (q 0) (I.x c) ∗ owns (c : Thread nD τ) a1 (q 1) (I.w1 0 c) ∗ owns (c : Thread nD τ) a2 (q 2) (I.w2 0 c)
    ∗ owns (c : Thread nD τ) a3 (q 3) (I.w1 1 c) ∗ owns (c : Thread nD τ) a4 (q 4) (I.w2 1 c)
    ∗ owns (c : Thread nD τ) a5 (q 5) (I.w1 2 c) ∗ owns (c : Thread nD τ) a6 (q 6) (I.w2 2 c))

/-- The blocks of the result, at `R`. -/
def outRows (o : Memref sig .tc .vmem S2048x128 .f32) (R : Dev nD → Vec F S128x128 .f32) : SP F := bigSep Finset.univ fun s : Dev nD => row c o s (R s)

theorem waitAgSend_any (p : ℕ) (hp : p < 4) (m : List Debt) (hm : Above (2 + 2 * p) m) (Q : PUnit → SP F) :
    iprop(ctx I K ∗ owesE c m ∗ bigSep Finset.univ fun k : Fin 15 => pend (F := F) c (agS k) p)
      ⊢ iprop(((owesE c m ∗ bigSep Finset.univ fun k : Fin 15 => iprop(posn (F := F) c (agS k) (p + 1) ∗ agSrc I c p k)) -∗ Q ⟨⟩)
        -∗ WP c (waitAgSend xgM h8 cc0_scratch5 c) Q) :=
  waitAgSend_wp I K c p hp _ ((congrArg (fun m : Memref sig .tc .vmem S128x128 .bf16 => m.view.dmaCredit) (src_eq xgM c)).trans (N_xg _)) m hm Q

theorem prog_wp (a0 : Memref sig .tc .vmem S128x128 .f32) (a1 : Memref sig .tc .vmem S128x256 .f32) (a2 : Memref sig .tc .vmem S256x128 .f32)
    (a3 : Memref sig .tc .vmem S128x256 .f32) (a4 : Memref sig .tc .vmem S256x128 .f32) (a5 : Memref sig .tc .vmem S128x256 .f32)
    (a6 : Memref sig .tc .vmem S256x128 .f32) (q : Fin 7 → PosShare TreeShare) (o : Memref sig .tc .vmem S2048x128 .f32) (Y : Dev nD → Vec F S128x128 .f32)
    (Q : PUnit → SP F) :
    iprop(ctx I K ∗ wins I c a0 a1 a2 a3 a4 a5 a6 q ∗ outRows c o Y ∗ bodyPre (F := F) c)
      ⊢ iprop(((wins I c a0 a1 a2 a3 a4 a5 a6 q ∗ outRows c o (I.out c) ∗ bodyPost (F := F) c) -∗ Q ⟨⟩)
        -∗ WP c (prog a0 a1 a2 a3 a4 a5 a6 o xgM h8 rsM h9 pbM h10 xbM h11 cc0_scratch4 cc0_scratch5 cc0_scratch6 cc0_scratch7) Q) := by
  unfold wins outRows bodyPre
  rw [bigSep_all c, bigSep_all c]
  iintro ⟨#Hc, ⟨H0, H1, H2, H3, H4, H5, H6⟩, ⟨Ho, Hos⟩, HO, Hbar, Hpb, Hxb, Hx, Hrs, Hxs, Hrss, Hpbs, Htb, Hst, Ht0, Hf0, Hf1, Hf2, Hd⟩ Hk
  unfold prog
  rw [WP_bind]
  iapply (WP_deviceId c _)
  rw [WP_bind]
  iapply (sigs_wp I K c (agD c 0 ++ tailD c 0) _) $$ [HO Htb Hxs]
  · isplitr; · iexact Hc
    isplitl [HO]; · iexact HO
    rw [bigSep_sep']
    isplitl [Htb]; · iexact Htb
    iexact Hxs
  iintro HO
  rw [WP_bind]
  iapply (wait_bar I K c _ ((above_ag c 0 1 (by omega) (by omega)).append (above_tail c 0 1 (by omega))) _) $$ [HO Hbar Hpb]
  · isplitr; · iexact Hc
    isplitl [HO]; · iexact HO
    isplitl [Hbar] <;> iassumption
  iintro ⟨HO, Hpb, Hpl⟩
  rw [WP_bind]
  iapply (start_wp h8 h11 I c a0 _) $$ [H0 Hxb Hx]
  · isplitl [H0]; · iexact H0
    isplitl [Hxb] <;> iassumption
  iintro ⟨H0, Hxb, Hx⟩
  rw [WP_bind]
  iapply (ag0_wp h8 h11 I K c (tailD c 0) _) $$ [HO Hxb Hx Ht0 Hst Hpl Hrss Hpbs]
  · isplitr; · iexact Hc
    isplitl [HO]; · iexact HO
    isplitl [Hxb]; · iexact Hxb
    isplitl [Hx]; · iexact Hx
    isplitl [Ht0]; · iexact Ht0
    isplitl [Hst]; · iexact Hst
    isplitl [Hpl]; · iexact Hpl
    isplitl [Hrss] <;> iassumption
  iintro ⟨HO, Hm, Hat⟩
  iapply (layer_wp h8 h9 h10 h11 I K c 0 (by omega) a1 a2 (rsDev0 c) (agDev1 c) (rsDev0_eq c) (agDev1_eq c) _
    (fun m hm Q => waitAgSend_wp I K c 0 (by omega) xbM N_xb m hm Q) _ Q) $$ [HO H1 H2 Hm Hrs Hat Hf0]
  · isplitr; · iexact Hc
    isplitl [HO]; · iexact HO
    isplitl [H1]; · iexact H1
    isplitl [H2]; · iexact H2
    isplitl [Hm]; · iexact Hm
    isplitl [Hrs]; · iexact Hrs
    isplitl [Hat] <;> iassumption
  iintro ⟨HO, H1, H2, Hm, Hrs, Hat⟩
  iapply (layer_wp h8 h9 h10 h11 I K c 1 (by omega) a3 a4 (rsDev1 c) (agDev2 c) (rsDev1_eq c) (agDev2_eq c) _
    (fun m hm Q => waitAgSend_any h8 I K c 1 (by omega) m hm Q) _ Q) $$ [HO H3 H4 Hm Hrs Hat Hf1]
  · isplitr; · iexact Hc
    isplitl [HO]; · iexact HO
    isplitl [H3]; · iexact H3
    isplitl [H4]; · iexact H4
    isplitl [Hm]; · iexact Hm
    isplitl [Hrs]; · iexact Hrs
    isplitl [Hat] <;> iassumption
  iintro ⟨HO, H3, H4, Hm, Hrs, Hat⟩
  iapply (layer_wp h8 h9 h10 h11 I K c 2 (by omega) a5 a6 (rsDev2 c) (agDev3 c) (rsDev2_eq c) (agDev3_eq c) _
    (fun m hm Q => waitAgSend_any h8 I K c 2 (by omega) m hm Q) _ Q) $$ [HO H5 H6 Hm Hrs Hat Hf2]
  · isplitr; · iexact Hc
    isplitl [HO]; · iexact HO
    isplitl [H5]; · iexact H5
    isplitl [H6]; · iexact H6
    isplitl [Hm]; · iexact Hm
    isplitl [Hrs]; · iexact Hrs
    isplitl [Hat] <;> iassumption
  iintro ⟨HO, H5, H6, Hm, Hrs, Hat⟩
  have hat : (bigSep Finset.univ fun k : Fin 15 => atLayer (F := F) c 3 k) = iprop((bigSep Finset.univ fun k : Fin 15 => pend (F := F) c (agS k) 3)
      ∗ (bigSep Finset.univ fun k : Fin 15 => posn (F := F) c (ag (pr c k)) 3) ∗ (bigSep Finset.univ fun k : Fin 15 => posn (F := F) c (rs (pr c k)) 3)
      ∗ (bigSep Finset.univ fun k : Fin 15 => posn (F := F) c (rsS k) 3) ∗ (bigSep Finset.univ fun k : Fin 15 => rowAny (F := F) c pbM (pr c k))
      ∗ bigSep Finset.univ fun k : Fin 15 => rowAny (F := F) c rsM (pr c k)) := by
    unfold atLayer; rw [bigSep_sep', bigSep_sep', bigSep_sep', bigSep_sep', bigSep_sep']; rfl
  ihave Hat' := (Entails.of_eq hat) $$ Hat
  icases Hat' with ⟨Hpa, Hag, Hpr, Hps, Hpbs, Hrss⟩
  rw [WP_bind]
  iapply (finish_wp h8 h11 I K c o _ (Above.nil 8) _) $$ [HO Ho Hos Hag Hd]
  · isplitr; · iexact Hc
    isplitl [HO]; · iexact HO
    isplitl [Ho]; · iapply (row_any c o c _); iexact Ho
    isplitl [Hos]
    · iapply (show (bigSep Finset.univ fun k : Fin 15 => row c o (pr c k) (Y (pr c k)) : SP F) ⊢ bigSep Finset.univ fun k : Fin 15 => rowAny (F := F) c o (pr c k)
        from bigSep_mono fun k _ => row_any c o (pr c k) _)
      iexact Hos
    unfold pend
    rw [bigSep_sep']
    isplitl [Hag] <;> iassumption
  iintro ⟨HO, Ho, Hos, Hag, Hxs⟩
  iapply (waitAgSend_any h8 I K c 3 (by omega) [] (Above.nil _) _) $$ [HO Hpa]
  · isplitr; · iexact Hc
    isplitl [HO]; · iexact HO
    iexact Hpa
  rw [bigSep_sep']
  iintro ⟨HO, Hpa, Hsrc⟩
  ihave Hw := (mine_iff I c 3).2 $$ [Hm Hsrc]
  · isplitl [Hm]; · iexact Hm
    iexact Hsrc
  icases Hw with ⟨Hxb, Hx⟩
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [Ho Hos]
  · isplitl [Ho] <;> iassumption
  unfold bodyPost atEnd
  rw [bigSep_sep', bigSep_sep', bigSep_sep']
  isplitl [HO]; · iexact HO
  isplitl [Hpb]; · iexact Hpb
  isplitl [Hxb]; · iexists _; iexact Hxb
  isplitl [Hx]; · iapply (row_any c xgM c _); iexact Hx
  isplitl [Hrs]; · iexact Hrs
  isplitl [Hxs]; · iexact Hxs
  isplitl [Hrss]; · iexact Hrss
  isplitl [Hpbs]; · iexact Hpbs
  isplitl [Hpa]; · iexact Hpa
  isplitl [Hag]; · iexact Hag
  isplitl [Hpr] <;> iassumption

end Body

end Cert.Proof.KI

end
-- ==== Proof.Ideal.Deal.lean ====
/- For `KernelIdeal`, the program of the claims over the extended reals; the text is that of the module of the same name
   for `Kernel`.
   What the launch deals each device: its positions, the rights to pay its debts, and the rights to wait. -/
module

public import proofs.«01_k».proof.Proof.Ideal.Body
public import Idealize.ShloMosaic.Lib.Quiescent

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells and the rights to pay -/

/-- Every semaphore of the protocol on every device. -/
def cellS : Finset (GSem nD τ sig) := Finset.univ.map ⟨fun p : Dev nD × CK => kcell p.1 p.2, kcell_inj⟩

/-- A device's payments: the handshake's, the all-gathers' and the reduce-scatters' (of the source, then of the target). -/
abbrev TK : Type := Fin 15 ⊕ ((Fin 4 × Fin 15 ⊕ Fin 4 × Fin 15) ⊕ (Fin 3 × Fin 15 ⊕ Fin 3 × Fin 15))

/-- The device, the semaphore and the round a payment of device `c` is to. -/
def payAt (c : Dev nD) : TK → (Dev nD × CK) × ℕ
  | .inl k => ((pr c k, bar), 0)
  | .inr (.inl (.inl x)) => ((c, agS x.2), x.1.val)
  | .inr (.inl (.inr x)) => ((pr c x.2, ag c), x.1.val)
  | .inr (.inr (.inl x)) => ((c, rsS x.2), x.1.val)
  | .inr (.inr (.inr x)) => ((pr c x.2, rs c), x.1.val)

theorem payAt_inj (c : Dev nD) : Function.Injective (payAt c) := by
  rintro (k | (⟨p, k⟩ | ⟨p, k⟩) | (⟨p, k⟩ | ⟨p, k⟩)) (k' | (⟨p', k'⟩ | ⟨p', k'⟩) | (⟨p', k'⟩ | ⟨p', k'⟩)) h
  all_goals simp only [payAt, Prod.mk.injEq, Sum.inr.injEq, Sum.inl.injEq, reduceCtorEq, and_true, true_and, false_and, and_false] at h
  · rw [pr_inj c h]
  · rw [h.1, Fin.ext h.2]
  · rw [pr_inj c h.1, Fin.ext h.2]
  · rw [h.1, Fin.ext h.2]
  · rw [pr_inj c h.1, Fin.ext h.2]

/-- A payment's token, by payer. -/
def tokAt (x : Dev nD × TK) : GSem nD τ sig × ℕ × Dev nD := (kcell (payAt x.1 x.2).1.1 (payAt x.1 x.2).1.2, (payAt x.1 x.2).2, x.1)

theorem tokAt_inj : Function.Injective tokAt := by
  rintro ⟨c, t⟩ ⟨c', t'⟩ h
  have hc : c = c' := congrArg (fun x : GSem nD τ sig × ℕ × Dev nD => x.2.2) h
  subst hc
  have h1 : (payAt c t).1 = (payAt c t').1 := kcell_inj (congrArg Prod.fst h)
  have h2 : (payAt c t).2 = (payAt c t').2 := congrArg (fun x : GSem nD τ sig × ℕ × Dev nD => x.2.1) h
  rw [payAt_inj c (Prod.ext h1 h2)]

/-- Every right to pay. -/
def tokS : Finset (GSem nD τ sig × ℕ × Dev nD) := Finset.univ.map ⟨tokAt, tokAt_inj⟩

/-- The launch's element. -/
def u₀ : UU := (initOf (Pipeline.cells cfgs cellOf_inj) (Pipeline.launchToks cfgs cellOf_inj), initOf cellS tokS)

theorem bigSep_3 (Φ : Fin 3 → SP F) : bigSep Finset.univ Φ = iprop(Φ 0 ∗ Φ 1 ∗ Φ 2) := bigSep_univ_eq_bigSepL [0, 1, 2] (by decide) (by decide) Φ
theorem bigSep_4 (Φ : Fin 4 → SP F) : bigSep Finset.univ Φ = iprop(Φ 0 ∗ Φ 1 ∗ Φ 2 ∗ Φ 3) := bigSep_univ_eq_bigSepL [0, 1, 2, 3] (by decide) (by decide) Φ

/-- The payments device `c` may make, stage by stage. -/
def toks (c : Dev nD) : SP F :=
  iprop((bigSep Finset.univ fun k : Fin 15 => dutyTok ER (kcell (pr c k) bar) 0 c)
    ∗ ((bigSep Finset.univ fun k : Fin 15 => agTok (F := F) c 0 k) ∗ (bigSep Finset.univ fun k : Fin 15 => agTok (F := F) c 1 k)
      ∗ (bigSep Finset.univ fun k : Fin 15 => agTok (F := F) c 2 k) ∗ bigSep Finset.univ fun k : Fin 15 => agTok (F := F) c 3 k)
    ∗ ((bigSep Finset.univ fun k : Fin 15 => rsTok (F := F) c 0 k) ∗ (bigSep Finset.univ fun k : Fin 15 => rsTok (F := F) c 1 k)
      ∗ bigSep Finset.univ fun k : Fin 15 => rsTok (F := F) c 2 k))

theorem agToks_eq (c : Dev nD) : iprop((bigSep Finset.univ fun x : Fin 4 × Fin 15 => dutyTok ER (kcell c (agS x.2)) x.1.val c)
      ∗ bigSep Finset.univ fun x : Fin 4 × Fin 15 => dutyTok ER (kcell (pr c x.2) (ag c)) x.1.val c)
    = iprop((bigSep Finset.univ fun k : Fin 15 => agTok (F := F) c 0 k) ∗ (bigSep Finset.univ fun k : Fin 15 => agTok (F := F) c 1 k)
      ∗ (bigSep Finset.univ fun k : Fin 15 => agTok (F := F) c 2 k) ∗ bigSep Finset.univ fun k : Fin 15 => agTok (F := F) c 3 k) := by
  rw [← bigSep_sep', bigSep_univ_prod, bigSep_4]; rfl
theorem rsToks_eq (c : Dev nD) : iprop((bigSep Finset.univ fun x : Fin 3 × Fin 15 => dutyTok ER (kcell c (rsS x.2)) x.1.val c)
      ∗ bigSep Finset.univ fun x : Fin 3 × Fin 15 => dutyTok ER (kcell (pr c x.2) (rs c)) x.1.val c)
    = iprop((bigSep Finset.univ fun k : Fin 15 => rsTok (F := F) c 0 k) ∗ (bigSep Finset.univ fun k : Fin 15 => rsTok (F := F) c 1 k)
      ∗ bigSep Finset.univ fun k : Fin 15 => rsTok (F := F) c 2 k) := by
  rw [← bigSep_sep', bigSep_univ_prod, bigSep_3]; rfl

/-- The rights to pay, dealt to the payers. -/
theorem tokS_eq : bigSep tokS (fun x => (dutyTok ER x.1 x.2.1 x.2.2 : SP F)) = bigSep Finset.univ fun c : Dev nD => toks (F := F) c := by
  unfold tokS
  rw [bigSep_map, bigSep_univ_prod]
  refine bigSep_congr fun c _ => ?_
  show (bigSep Finset.univ fun t : TK => dutyTok ER (kcell (payAt c t).1.1 (payAt c t).1.2) (payAt c t).2 c) = toks c
  rw [bigSep_univ_sum, bigSep_univ_sum, bigSep_univ_sum, bigSep_univ_sum]
  unfold toks
  rw [← agToks_eq, ← rsToks_eq]
  rfl

/-! ## Positions -/

/-- Device `c` at the start of every semaphore it waits on or not. -/
def starts (c : Dev nD) : SP F :=
  iprop(posn (F := F) c bar 0 ∗ (bigSep Finset.univ fun k : Fin 15 => atStart (F := F) c k) ∗ posn (F := F) c (ag c) 0 ∗ posn (F := F) c (rs c) 0)

/-- One conjunct per semaphore of a device, by kinds. -/
theorem bigSep_CK (c : Dev nD) (Φ : CK → SP F) : bigSep Finset.univ Φ = iprop(Φ bar ∗ ((bigSep Finset.univ fun k : Fin 15 => Φ (rsS k)) ∗ bigSep Finset.univ fun k : Fin 15 => Φ (agS k))
    ∗ ((Φ (ag c) ∗ bigSep Finset.univ fun k : Fin 15 => Φ (ag (pr c k))) ∗ (Φ (rs c) ∗ bigSep Finset.univ fun k : Fin 15 => Φ (rs (pr c k))))) := by
  rw [bigSep_univ_sum, bigSep_univ_sum, bigSep_univ_sum, bigSep_univ_sum, bigSep_all c, bigSep_all c]
  rw [bigSep_univ_eq_bigSepL [()] (by decide) (by decide)]
  rfl

theorem starts_intro (c : Dev nD) : (bigSep Finset.univ fun k : CK => posn (F := F) c k 0) ⊢ starts (F := F) c := by
  rw [bigSep_CK c]
  unfold starts atStart
  rw [bigSep_sep', bigSep_sep', bigSep_sep']
  iintro ⟨Hb, ⟨Hrs, Hag⟩, ⟨Ha, Has⟩, Hr, Hrss⟩
  isplitl [Hb]; · iexact Hb
  isplitl [Hrs Hag Has Hrss]
  · isplitl [Hag]; · iexact Hag
    isplitl [Has]; · iexact Has
    isplitl [Hrss] <;> iassumption
  isplitl [Ha] <;> iassumption

/-! ## The rights to wait -/

/-- The debts of a stage, from the payer's side and from the payee's. -/
def swap : Dev nD × Fin 15 ≃ Dev nD × Fin 15 where
  toFun x := (pr x.1 x.2, x.2.rev)
  invFun x := (pr x.1 x.2, x.2.rev)
  left_inv x := Prod.ext (rev_pr x.1 x.2) (Fin.rev_rev x.2)
  right_inv x := Prod.ext (rev_pr x.1 x.2) (Fin.rev_rev x.2)

theorem sum_swap (f : Dev nD → Dev nD → CellTallies nD τ sig ℕ) : ∑ d : Dev nD, ∑ k : Fin 15, f d (pr d k) = ∑ d : Dev nD, ∑ k : Fin 15, f (pr d k) d := by
  rw [← Fintype.sum_prod_type', ← Fintype.sum_prod_type', ← Equiv.sum_comp swap]
  refine Finset.sum_congr rfl fun x _ => ?_
  show f (pr x.1 x.2) (pr (pr x.1 x.2) x.2.rev) = _
  rw [rev_pr]

/-- What comes to device `c` in stage `k`, `r`: a payment from each peer on the semaphore for that peer. -/
def comes (c : Dev nD) (k : Dev nD → CK) (r : ℕ) : CellTallies nD τ sig ℕ := ∑ j : Fin 15, tallyAt (kcell c (k (pr c j))) r (amtF (k (pr c j)))
/-- What comes to device `c` in all. -/
def dues (c : Dev nD) : CellTallies nD τ sig ℕ :=
  tallyAt (kcell c bar) 0 15 + (comes c ag 0 + (comes c rs 0 + (comes c ag 1 + (comes c rs 1 + (comes c ag 2 + (comes c rs 2 + comes c ag 3))))))

theorem owed_ofFn (f : Fin 15 → Debt) : owed (List.ofFn f) = ∑ k, (f k).tally := by
  unfold owed; rw [List.map_ofFn, List.sum_ofFn]; rfl

theorem tally_mul (g : GSem nD τ sig) (n : ℕ) : ∑ _k : Fin n, (tallyAt g 0 1 : CellTallies nD τ sig ℕ) = tallyAt g 0 n := by
  induction n with
  | zero => rw [Finset.univ_eq_empty, Finset.sum_empty, tallyAt_zero]
  | succ n ih => rw [Fin.sum_univ_castSucc, ih, tallyAt_add]

theorem sum_bar : ∑ d : Dev nD, owed (barD d) = ∑ d : Dev nD, tallyAt (kcell d bar) 0 15 := by
  simp only [barD, owed_ofFn]
  rw [sum_swap fun _ e => (⟨e, bar, 0⟩ : Debt).tally]
  exact Finset.sum_congr rfl fun d _ => tally_mul _ 15
theorem sum_ag (p : ℕ) : ∑ d : Dev nD, owed (agD d p) = ∑ d : Dev nD, comes d ag p := by
  simp only [agD, owed_ofFn]
  exact sum_swap fun d e => (⟨e, ag d, p⟩ : Debt).tally
theorem sum_rs (l : ℕ) : ∑ d : Dev nD, owed (rsD d l) = ∑ d : Dev nD, comes d rs l := by
  simp only [rsD, owed_ofFn]
  exact sum_swap fun d e => (⟨e, rs d, l⟩ : Debt).tally

/-- What the devices owe comes to what is due. -/
theorem sum_all : ∑ d : Dev nD, owed (allD d) = ∑ d : Dev nD, dues d := by
  simp only [allD, tailD, dues, owed_append, owed_nil, add_zero, Finset.sum_add_distrib, sum_bar, sum_ag, sum_rs]

theorem comes_at (c : Dev nD) (k : Dev nD → CK) (r : ℕ) {g : GSem nD τ sig} (h : g.1 ≠ (c.tc : Thread nD τ)) : comes c k r g = 0 := by
  unfold comes
  rw [Finset.sum_apply]
  exact Finset.sum_eq_zero fun j _ => tallyAt_ne_cell (fun e => h (congrArg Prod.fst e)) _ _

theorem dues_at (c : Dev nD) (g : GSem nD τ sig) (h : dues c g ≠ 0) : g.1 = (c.tc : Thread nD τ) := by
  by_contra hn
  refine h ?_
  unfold dues
  simp only [Pi.add_apply, comes_at c _ _ hn, tallyAt_ne_cell (fun e => hn (congrArg Prod.fst e) : g ≠ kcell c bar), add_zero]

theorem cred_comes (c : Dev nD) (k : Dev nD → CK) (r : ℕ) : (cred (comes c k r) : SP F) = bigSep Finset.univ fun j : Fin 15 => due (F := F) c (k (pr c j)) r := by
  unfold comes; rw [Pipeline.cred_finsetSum]; rfl

theorem cred_add' (a b : CellTallies nD τ sig ℕ) : (cred (a + b) : SP F) = iprop(cred a ∗ cred b) := BI.Entails.antisymm (cred_add _ _).1 (cred_add _ _).2

/-- Device `c`'s rights to wait. -/
theorem creds (c : Dev nD) : (Pipeline.launchCred (fun d => owed (allD d)) c : SP F)
    = iprop(cred (tallyAt (kcell c bar) 0 15) ∗ (bigSep Finset.univ fun k : Fin 15 => due (F := F) c (ag (pr c k)) 0)
      ∗ (bigSep Finset.univ fun k : Fin 15 => due (F := F) c (rs (pr c k)) 0) ∗ (bigSep Finset.univ fun k : Fin 15 => due (F := F) c (ag (pr c k)) 1)
      ∗ (bigSep Finset.univ fun k : Fin 15 => due (F := F) c (rs (pr c k)) 1) ∗ (bigSep Finset.univ fun k : Fin 15 => due (F := F) c (ag (pr c k)) 2)
      ∗ (bigSep Finset.univ fun k : Fin 15 => due (F := F) c (rs (pr c k)) 2) ∗ bigSep Finset.univ fun k : Fin 15 => due (F := F) c (ag (pr c k)) 3) := by
  rw [Pipeline.launchCred_of_sum _ dues sum_all dues_at c]
  unfold dues
  rw [cred_add', cred_add', cred_add', cred_add', cred_add', cred_add', cred_add', cred_comes, cred_comes, cred_comes, cred_comes, cred_comes, cred_comes, cred_comes]

end Cert.Proof.KI

end
-- ==== Proof.Ideal.Start.lean ====
/- For `KernelIdeal`, the program of the claims over the extended reals; the text is that of the module of the same name
   for `Kernel`.
   The launch: every semaphore's rounds set up, and each device dealt its positions and rights. -/
module

public import proofs.«01_k».proof.Proof.Ideal.Deal

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Ins F)

/-- A device's own part of the set-up: its positions and its rights to pay. -/
def lin (c : Dev nD) : SP F := iprop(starts (F := F) c ∗ toks (F := F) c)

/-- What the launch's element deals device `c`. -/
def G (c : Dev nD) : SP F :=
  iprop((bigSep Finset.univ fun k : CK => roundState ER (sched I) (kcell c k) 0) ∗ (bigSep Finset.univ fun k : CK => reached ER (kcell c k) 0) ∗ lin (F := F) c)

/-- Every semaphore's rounds, under the names `K`. -/
def records (K : Dev nD × CK → ℕ) : SP F :=
  iprop((bigSep Finset.univ fun p : Dev nD × CK => cellInv ER (sched I) (K p) (kcell p.1 p.2))
    ∗ bigSep Finset.univ fun p : Dev nD × CK => reached ER (kcell p.1 p.2) 0)

instance records_persistent (K : Dev nD × CK → ℕ) : BI.Persistent (records I K) := by unfold records; infer_instance

/-- What device `c` holds once the rounds are set up. -/
def G' (c : Dev nD) : SP F := iprop(∃ K, records I K ∗ lin (F := F) c)

/-- What device `c` starts the kernel with. -/
def opening (c : Dev nD) : SP F :=
  iprop(∃ K, ctx I K ∗ lin (F := F) c ∗ Pipeline.launchCred (fun d => owed (allD d)) c)

theorem cells_eq (Φ : GSem nD τ sig → SP F) : bigSep cellS Φ = bigSep Finset.univ fun c : Dev nD => bigSep Finset.univ fun k : CK => Φ (kcell c k) := by
  unfold cellS; rw [bigSep_map, bigSep_univ_prod]; rfl

theorem positions : iprop((bigSep Finset.univ fun c : Dev nD => bigSep Finset.univ fun k : CK => atPos ER (kcell c k) 0 ∅ 0)
    ∗ bigSep Finset.univ fun c : Dev nD => bigSep Finset.univ fun k : CK => reached ER (kcell c k) 0)
      ⊢ (bigSep Finset.univ fun c : Dev nD => starts (F := F) c) := by
  rw [← bigSep_sep']
  refine bigSep_mono fun c _ => ?_
  rw [← bigSep_sep']
  exact starts_intro c

theorem fund_cells : BI.own (ER (initOf cellS tokS)) ⊢ (|==> bigSep Finset.univ (G I) : SP F) := by
  iintro HX
  imod (Rounds.fund ER (sched I) cellS tokS) $$ HX with ⟨Hst, #Hr, Hat, Htok⟩
  imodintro
  ihave Hst' := (Entails.of_eq (cells_eq fun g => roundState ER (sched I) g 0)) $$ Hst
  ihave Hat' := (Entails.of_eq (cells_eq fun g => atPos ER g 0 ∅ 0)) $$ Hat
  ihave Hr' := (Entails.of_eq (cells_eq (F := F) fun g => reached ER g 0)) $$ Hr
  ihave Hr'' := (Entails.of_eq (cells_eq (F := F) fun g => reached ER g 0)) $$ Hr
  ihave Htok' := (Entails.of_eq (tokS_eq (F := F))) $$ Htok
  unfold G lin; rw [bigSep_sep', bigSep_sep', bigSep_sep']
  isplitl [Hst']; · iexact Hst'
  isplitl [Hr'']; · iexact Hr''
  isplitr [Htok']
  · iapply positions
    isplitl [Hat'] <;> iassumption
  iexact Htok'

/-- The barrier semaphore is the launch's one semaphore outside the kernel. -/
theorem unscopedSems0_eq (c : Dev nD) : (unscopedSems0 c : SP F) = semVal (kcell c bar) 0 := by
  unfold unscopedSems0; rw [bigSep_eq_bigSepL_of_eq [SemLoc.reg barS] (by decide) (by decide)]; rfl

/-- One conjunct per semaphore is the barrier's and one per semaphore of the kernel. -/
theorem bar_and (Φ : CK → SP F) : bigSep Finset.univ Φ = iprop(Φ bar ∗ bigSep Finset.univ fun k : OK => Φ (.inr k)) := by
  rw [bigSep_univ_sum, bigSep_univ_eq_bigSepL [()] (by decide) (by decide)]; rfl

theorem sems0_eq (c : Dev nD) : iprop(Pipeline.ownSems0 oloc c ∗ unscopedSems0 c) ⊢ (bigSep Finset.univ fun k : CK => semVal (kcell c k) 0 : SP F) := by
  rw [unscopedSems0_eq, bar_and (F := F) fun k => semVal (kcell c k) 0]
  unfold Pipeline.ownSems0
  iintro ⟨HO, HB⟩
  isplitl [HB]; · iexact HB
  iexact HO

theorem core_alloc (c : Dev nD) :
    iprop(Pipeline.ownSems0 oloc c ∗ unscopedSems0 c ∗ G I c)
      ⊢ |={Set.univ}=> iprop((bigSep Finset.univ fun k : CK => iprop(∃ κ : ℕ, cellInv ER (sched I) κ (kcell c k)))
          ∗ (bigSep Finset.univ fun k : CK => reached ER (kcell c k) 0) ∗ lin (F := F) c) := by
  unfold G
  iintro ⟨Hos, Hus, Hst, Hr, Hl⟩
  ihave Hv := (sems0_eq (F := F) c) $$ [Hos Hus]
  · isplitl [Hos] <;> iassumption
  have hal : iprop((bigSep Finset.univ fun k : CK => semVal (kcell c k) 0) ∗ bigSep Finset.univ fun k : CK => roundState ER (sched I) (kcell c k) 0)
      ⊢ (|={Set.univ}=> bigSep Finset.univ fun k : CK => iprop(∃ κ : ℕ, cellInv ER (sched I) κ (kcell c k)) : SP F) := by
    rw [← bigSep_sep']
    exact (bigSep_mono fun k _ => (Rounds.body_intro ER (sched I) (kcell c k)).trans inv_alloc).trans (bigSep_fupd _ _)
  imod hal $$ [Hv Hst] with Hinv
  · isplitl [Hv] <;> iassumption
  imodintro
  isplitl [Hinv]; · iexact Hinv
  isplitl [Hr] <;> iassumption

theorem deal (K : Dev nD × CK → ℕ) (c : Dev nD) : iprop(records I K ∗ lin (F := F) c) ⊢ G' I c := by
  unfold G'
  iintro H
  iexists K
  iexact H

theorem regroup :
    (bigSep Finset.univ fun c : Dev nD => iprop((bigSep Finset.univ fun k : CK => iprop(∃ κ : ℕ, cellInv ER (sched I) κ (kcell c k)))
        ∗ (bigSep Finset.univ fun k : CK => reached ER (kcell c k) 0) ∗ lin (F := F) c) : SP F)
      ⊢ bigSep Finset.univ (G' I) := by
  rw [bigSep_sep', bigSep_sep', ← bigSep_univ_prod (fun p : Dev nD × CK => iprop(∃ κ : ℕ, cellInv ER (sched I) κ (kcell p.1 p.2))),
    ← bigSep_univ_prod (fun p : Dev nD × CK => (reached ER (kcell p.1 p.2) 0 : SP F))]
  iintro ⟨HI, #HR, Hl⟩
  ihave HK := (BI.bigSep_exists_pi Finset.univ (fun (p : Dev nD × CK) (κ : ℕ) => (cellInv ER (sched I) κ (kcell p.1 p.2) : SP F))) $$ HI
  icases HK with ⟨%K, #HI⟩
  iapply (bigSep_with_persistent (R := records I K) fun c _ => deal I K c)
  isplitr
  · unfold records; isplitl; · iexact HI
    iexact HR
  iexact Hl

/-- The set-up of every semaphore on every device at once. -/
theorem glob : (bigSep Finset.univ fun c => iprop(Pipeline.ownSems0 oloc c ∗ unscopedSems0 c ∗ G I c) : SP F) ⊢ |={Set.univ}=> bigSep Finset.univ (G' I) :=
  ((bigSep_mono fun c _ => core_alloc I c).trans (bigSep_fupd _ _)).trans (BI.fupd_mono (regroup I))

theorem opening_intro (c : Dev nD) (R P : SP F) :
    iprop(R ∗ levAts L lv ∗ Pipeline.launchCred (fun d => owed (allD d)) c ∗ P ∗ G' I c) ⊢ |={Set.univ}=> iprop(opening I c ∗ emp) := by
  iintro ⟨-, Hlev, Hcr, -, HG⟩
  unfold G' opening ctx records
  icases HG with ⟨%K, ⟨HI, HR⟩, Hl⟩
  imodintro
  isplitl
  · iexists K
    isplitl [HI HR Hlev]
    · isplitl [HI]; · iexact HI
      isplitl [HR] <;> iassumption
    isplitl [Hl] <;> iassumption
  · iempintro

end Cert.Proof.KI

end
-- ==== Proof.Ideal.Run.lean ====
/- For `KernelIdeal`, the program of the claims over the extended reals; the text is that of the module of the same name
   for `Kernel`.
   The kernel's obligation to the launch: from what each device is dealt to its windows, scratch and semaphores given back. -/
module

public import proofs.«01_k».proof.Proof.Ideal.Start

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## Blocks of rows -/

theorem rRow_cover : (Finset.univ : Finset (Fin 16)).biUnion (fun s => (rRow s).set) = Finset.univ := by
  ext i
  simp only [Finset.mem_biUnion, Finset.mem_univ, true_and, iff_true, Rect.mem_set_unit]
  have h0 : (i 0).val < 2048 := (i 0).isLt
  have h1 : (i 1).val < 128 := (i 1).isLt
  refine ⟨⟨(i 0).val / 128, by omega⟩, fun a => ?_⟩
  fin_cases a
  · show 128 * ((i 0).val / 128) ≤ (i 0).val ∧ (i 0).val < 128 * ((i 0).val / 128) + 128
    omega
  · show 0 ≤ (i 1).val ∧ (i 1).val < 0 + 128
    omega

theorem rRow_disjoint (s s' : Fin 16) (h : s ≠ s') : Disjoint (rRow s).set (rRow s').set := by
  refine Rect.unit_disjoint 0 ?_
  have : s.val ≠ s'.val := fun e => h (Fin.ext e)
  show 128 * s.val + 128 ≤ 128 * s'.val ∨ 128 * s'.val + 128 ≤ 128 * s.val
  omega

/-- The array whose blocks of rows are `R`. -/
def ofRows {e : EltTy} (R : Dev nD → Vec F S128x128 e) : Vec F S2048x128 e := Rect.glue rRow rRow_cover R

theorem ofRows_row {e : EltTy} (R : Dev nD → Vec F S128x128 e) (s : Dev nD) : (fun j => ofRows (F := F) R ((rRow s).emb j)) = R s :=
  funext fun j => Rect.glue_emb rRow rRow_cover rRow_disjoint R s j

/-- A buffer is its blocks of rows. -/
theorem rows_split (c : Dev nD) {e : EltTy} (m : Memref sig .tc .vmem S2048x128 e) (X : Vec F S2048x128 e) :
    (owns (c : Thread nD τ) m fullShare X : SP F) ⊢ bigSep Finset.univ fun s : Dev nD => row (F := F) c m s (fun j => X ((rRow s).emb j)) :=
  owns_rects (c : Thread nD τ) m fullShare rRow (fun _ _ => rfl) rRow_disjoint rRow_cover X

theorem rows_join (c : Dev nD) {e : EltTy} (m : Memref sig .tc .vmem S2048x128 e) (R : Dev nD → Vec F S128x128 e) :
    (bigSep Finset.univ fun s : Dev nD => row (F := F) c m s (R s)) ⊢ (owns (c : Thread nD τ) m fullShare (ofRows (F := F) R) : SP F) := by
  have h := owns_of_rects (Ix := ℕ) (Name := ℕ) (U := UU) (Lvl := ℕ) (c : Thread nD τ) m fullShare rRow (fun _ _ => rfl) rRow_disjoint rRow_cover (ofRows (F := F) R)
  simp only [ofRows_row] at h
  exact h

theorem rows_any (c : Dev nD) {e : EltTy} (m : Memref sig .tc .vmem S2048x128 e) :
    iprop(∃ X, owns (c : Thread nD τ) m fullShare X) ⊢ (bigSep Finset.univ fun s : Dev nD => rowAny (F := F) c m s : SP F) := by
  iintro ⟨%X, H⟩
  iapply ((rows_split c m X).trans (bigSep_mono fun s _ => (show row (F := F) c m s (fun j => X ((rRow s).emb j)) ⊢ rowAny (F := F) c m s from by
    unfold rowAny; iintro H; iexists (fun j => X ((rRow s).emb j)); iexact H)))
  iexact H

theorem any_rows (c : Dev nD) {e : EltTy} (m : Memref sig .tc .vmem S2048x128 e) :
    (bigSep Finset.univ fun s : Dev nD => rowAny (F := F) c m s : SP F) ⊢ iprop(∃ X, owns (c : Thread nD τ) m fullShare X) := by
  unfold rowAny
  iintro H
  ihave H' := (BI.bigSep_exists_pi Finset.univ (fun (s : Dev nD) X => row (F := F) c m s X)) $$ H
  icases H' with ⟨%R, H⟩
  iexists (ofRows (F := F) R)
  iapply (rows_join c m R)
  iexact H

theorem owns_whole_eq (c : Dev nD) (b : Ref sig .tc) (X : b.ty.Contents (Elt F)) :
    (owns (c : Thread nD τ) (Memref.whole b) fullShare X : SP F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The scratch -/

/-- Device `c`'s scratch, at some contents. -/
def scr (c : Dev nD) : SP F :=
  iprop((∃ X, owns (c : Thread nD τ) xgM fullShare X) ∗ (∃ X, owns (c : Thread nD τ) rsM fullShare X) ∗ (∃ X, owns (c : Thread nD τ) pbM fullShare X)
    ∗ ∃ X, owns (c : Thread nD τ) xbM fullShare X)

theorem own_any (c : Dev nD) (b : Ref sig .tc) :
    (iprop(∃ f : Buf (Elt F) ((c : Thread nD τ).loc b), ((c : Thread nD τ).loc b) ↦{fullShare} f) : SP F)
      = iprop(∃ X, owns (c : Thread nD τ) (Memref.whole b) fullShare X) := by
  have h₁ : (iprop(∃ f : Buf (Elt F) ((c : Thread nD τ).loc b), ((c : Thread nD τ).loc b) ↦{fullShare} f) : SP F)
      ⊢ iprop(∃ X, owns (c : Thread nD τ) (Memref.whole b) fullShare X) := by
    iintro ⟨%f, H⟩
    iexists f
    rw [owns_whole_eq]
    iexists f
    isplitr; · (ipureintro; rfl)
    iexact H
  have h₂ : iprop(∃ X, owns (c : Thread nD τ) (Memref.whole b) fullShare X)
      ⊢ (iprop(∃ f : Buf (Elt F) ((c : Thread nD τ).loc b), ((c : Thread nD τ).loc b) ↦{fullShare} f) : SP F) := by
    iintro ⟨%X, H⟩
    ihave H' := (Entails.of_eq (owns_whole_eq (F := F) c b X)) $$ H
    icases H' with ⟨%f, -, H⟩
    iexists f
    iexact H
  exact BI.Entails.antisymm h₁ h₂

theorem scr_eq (c : Dev nD) : (Pipeline.scopedRest cfg0.spec c : SP F) = scr (F := F) c := by
  rw [scopedRest0_eq, own_any, own_any, own_any, own_any]; rfl

/-! ## The semaphores closed -/

variable (I : Ins F) (K : Dev nD × CK → ℕ)

/-- The round each semaphore of device `c` ends at. -/
def ends (c : Dev nD) : CK → ℕ
  | .inl _ => 1
  | .inr (.inl (.inl _)) => 3
  | .inr (.inl (.inr _)) => 4
  | .inr (.inr (.inl s)) => if s = c then 0 else 4
  | .inr (.inr (.inr s)) => if s = c then 0 else 3

theorem ends_over (c : Dev nD) (k : CK) (r : ℕ) (h : ends c k ≤ r) : dutyF c k r = ∅ := by
  rcases k with ⟨⟩ | (k | k) | (s | s) <;> simp only [ends, dutyF] at h ⊢
  · rw [if_neg (by omega)]
  · rw [if_neg (by omega)]
  · rw [if_neg (by omega)]
  · refine if_neg fun hs => ?_
    rw [if_neg hs.1] at h; omega
  · refine if_neg fun hs => ?_
    rw [if_neg hs.1] at h; omega

theorem close_one (c : Dev nD) (k : CK) : iprop(ctx I K ∗ posn (F := F) c k (ends c k)) ⊢ |={Set.univ}=> semVal (kcell c k) 0 := by
  unfold posn
  iintro ⟨#Hc, Hat, -⟩
  iapply (Rounds.cell_close ER (sched I) (Set.mem_univ (K (c, k))) (fun h => h) (R := ends c k)
    (fun r hr => (duties_eq I c k r).trans (ends_over c k r hr)))
  isplitr; · iapply (ctx_inv I K c k); iexact Hc
  iexact Hat

/-- Every semaphore of a device at its last round is given back at zero. -/
theorem close_all (c : Dev nD) : iprop(ctx I K ∗ bigSep Finset.univ fun k : CK => posn (F := F) c k (ends c k))
    ⊢ |={Set.univ}=> iprop(unscopedSems0 c ∗ Pipeline.ownSems0 oloc c) := by
  have h : iprop(unscopedSems0 c ∗ Pipeline.ownSems0 oloc c) = (bigSep Finset.univ fun k : CK => semVal (kcell c k) 0 : SP F) := by
    rw [unscopedSems0_eq, bar_and (F := F) fun k => semVal (kcell c k) 0]; rfl
  rw [h]
  exact (bigSep_with_persistent fun k _ => close_one I K c k).trans (bigSep_fupd _ _)

theorem ends_all (c : Dev nD) : iprop(posn (F := F) c bar 1 ∗ (bigSep Finset.univ fun k : Fin 15 => atEnd (F := F) c k) ∗ posn (F := F) c (ag c) 0 ∗ posn (F := F) c (rs c) 0)
    ⊢ bigSep Finset.univ fun k : CK => posn (F := F) c k (ends c k) := by
  rw [bigSep_CK c]
  have ha (k : Fin 15) : posn (F := F) c (ag (pr c k)) (ends c (ag (pr c k))) = posn (F := F) c (ag (pr c k)) 4 :=
    congrArg (posn (F := F) c _) (if_neg (pr_ne c k))
  have hr (k : Fin 15) : posn (F := F) c (rs (pr c k)) (ends c (rs (pr c k))) = posn (F := F) c (rs (pr c k)) 3 :=
    congrArg (posn (F := F) c _) (if_neg (pr_ne c k))
  have ha' : posn (F := F) c (ag c) (ends c (ag c)) = posn (F := F) c (ag c) 0 := congrArg (posn (F := F) c _) (if_pos rfl)
  have hr' : posn (F := F) c (rs c) (ends c (rs c)) = posn (F := F) c (rs c) 0 := congrArg (posn (F := F) c _) (if_pos rfl)
  rw [bigSep_congr (fun k _ => ha k), bigSep_congr (fun k _ => hr k), ha', hr']
  unfold atEnd
  rw [bigSep_sep', bigSep_sep', bigSep_sep']
  iintro ⟨Hb, ⟨Has, Hag, Hrs, Hrr⟩, Ha, Hr⟩
  isplitl [Hb]; · iexact Hb
  isplitl [Has Hrr]
  · isplitl [Hrr]; · iexact Hrr
    iexact Has
  isplitl [Ha Hag]
  · isplitl [Ha] <;> iassumption
  isplitl [Hr] <;> iassumption

/-! ## The body between the launch's ends -/

/-- What the launch deals and the scratch are what the body asks for, and what it does not touch. -/
theorem pre_intro (c : Dev nD) :
    iprop(lin (F := F) c ∗ Pipeline.launchCred (fun d => owed (allD d)) c ∗ scr (F := F) c ∗ owesE c (allD c))
      ⊢ iprop(bodyPre (F := F) c ∗ posn (F := F) c (ag c) 0 ∗ posn (F := F) c (rs c) 0 ∗ rowAny (F := F) c pbM c) := by
  rw [creds]
  unfold lin starts toks scr bodyPre fuel
  iintro ⟨⟨⟨Hb, Hst, Ha, Hr⟩, Htb, ⟨Hg0, Hg1, Hg2, Hg3⟩, Hs0, Hs1, Hs2⟩, ⟨Hc, Hda0, Hdr0, Hda1, Hdr1, Hda2, Hdr2, Hda3⟩, ⟨Hxg, Hrs, Hpb, Hxb⟩, HO⟩
  ihave Hxg' := ((rows_any (F := F) c xgM).trans (Entails.of_eq (bigSep_all c _))) $$ Hxg
  ihave Hrs' := ((rows_any (F := F) c rsM).trans (Entails.of_eq (bigSep_all c _))) $$ Hrs
  ihave Hpb' := ((rows_any (F := F) c pbM).trans (Entails.of_eq (bigSep_all c _))) $$ Hpb
  icases Hxg' with ⟨Hx, Hxs⟩
  icases Hrs' with ⟨Hrw, Hrws⟩
  icases Hpb' with ⟨Hp, Hps⟩
  isplitr [Ha Hr Hp]
  · isplitl [HO]; · iexact HO
    isplitl [Hc]; · iexact Hc
    isplitl [Hb]; · iexact Hb
    isplitl [Hxb]; · iexact Hxb
    isplitl [Hx]; · iexact Hx
    isplitl [Hrw]; · iexact Hrw
    isplitl [Hxs]; · iexact Hxs
    isplitl [Hrws]; · iexact Hrws
    isplitl [Hps]; · iexact Hps
    isplitl [Htb]; · iexact Htb
    isplitl [Hst]; · iexact Hst
    isplitl [Hg0]; · iexact Hg0
    isplitl [Hda0 Hdr0 Hs0 Hg1]
    · rw [bigSep_sep', bigSep_sep', bigSep_sep']
      isplitl [Hda0]; · iexact Hda0
      isplitl [Hdr0]; · iexact Hdr0
      isplitl [Hs0]; · iexact Hs0
      iexact Hg1
    isplitl [Hda1 Hdr1 Hs1 Hg2]
    · rw [bigSep_sep', bigSep_sep', bigSep_sep']
      isplitl [Hda1]; · iexact Hda1
      isplitl [Hdr1]; · iexact Hdr1
      isplitl [Hs1]; · iexact Hs1
      iexact Hg2
    isplitl [Hda2 Hdr2 Hs2 Hg3]
    · rw [bigSep_sep', bigSep_sep', bigSep_sep']
      isplitl [Hda2]; · iexact Hda2
      isplitl [Hdr2]; · iexact Hdr2
      isplitl [Hs2]; · iexact Hs2
      iexact Hg3
    iexact Hda3
  isplitl [Ha]; · iexact Ha
  isplitl [Hr] <;> iassumption

/-- What the body leaves and what it did not touch are the scratch and the semaphores at zero. -/
theorem post_elim (c : Dev nD) :
    iprop(ctx I K ∗ bodyPost (F := F) c ∗ posn (F := F) c (ag c) 0 ∗ posn (F := F) c (rs c) 0 ∗ rowAny (F := F) c pbM c)
      ⊢ |={Set.univ}=> iprop(owesE c [] ∗ scr (F := F) c ∗ unscopedSems0 c ∗ Pipeline.ownSems0 oloc c) := by
  unfold bodyPost scr
  iintro ⟨#Hc, ⟨HO, Hb, Hxb, Hx, Hrw, Hxs, Hrws, Hps, He⟩, Ha, Hr, Hp⟩
  ihave Hxg := ((Entails.of_eq (bigSep_all c fun s => rowAny (F := F) c xgM s).symm).trans (any_rows (F := F) c xgM)) $$ [Hx Hxs]
  · isplitl [Hx] <;> iassumption
  ihave Hrs := ((Entails.of_eq (bigSep_all c fun s => rowAny (F := F) c rsM s).symm).trans (any_rows (F := F) c rsM)) $$ [Hrw Hrws]
  · isplitl [Hrw] <;> iassumption
  ihave Hpb := ((Entails.of_eq (bigSep_all c fun s => rowAny (F := F) c pbM s).symm).trans (any_rows (F := F) c pbM)) $$ [Hp Hps]
  · isplitl [Hp] <;> iassumption
  ihave Hall := (ends_all (F := F) c) $$ [Hb He Ha Hr]
  · isplitl [Hb]; · iexact Hb
    isplitl [He]; · iexact He
    isplitl [Ha] <;> iassumption
  imod (close_all I K c) $$ [Hall] with Hz
  · isplitr; · iexact Hc
    iexact Hall
  imodintro
  isplitl [HO]; · iexact HO
  isplitl [Hxg Hrs Hpb Hxb]
  · isplitl [Hxg]; · iexact Hxg
    isplitl [Hrs]; · iexact Hrs
    isplitl [Hpb] <;> iassumption
  iexact Hz

end Cert.Proof.KI

end
-- ==== Proof.Ideal.Launch.lean ====
/- For `KernelIdeal`, the program of the claims over the extended reals; the text is that of the module of the same name
   for `Kernel`.
   The run of the whole kernel on the mesh: every device's body, from the launch to the end. -/
module

public import proofs.«01_k».proof.Proof.Ideal.Run
public import Idealize.ShloMosaic.Lib.Pipeline.CollectiveSegs

@[expose] public section

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The inputs as the devices' arrays hold them. -/
def ins : Ins F where
  x c := m ((c : Thread nD τ).loc main_arg0)
  w1 l c := match l with
    | 0 => m ((c : Thread nD τ).loc main_arg1)
    | 1 => m ((c : Thread nD τ).loc main_arg3)
    | _ => m ((c : Thread nD τ).loc main_arg5)
  w2 l c := match l with
    | 0 => m ((c : Thread nD τ).loc main_arg2)
    | 1 => m ((c : Thread nD τ).loc main_arg4)
    | _ => m ((c : Thread nD τ).loc main_arg6)

/-- Device `c`'s result. -/
def res (c : Dev nD) : Vec F S2048x128 .f32 := ofRows (F := F) ((ins m).out c)

/-- What device `c` holds before the body, and after. -/
def Φ₀ (c : Dev nD) : SP F := iprop(opening (ins m) c ∗ scr (F := F) c)
def Φ₁ (c : Dev nD) : SP F := iprop(scr (F := F) c ∗ unscopedSems0 c ∗ Pipeline.ownSems0 oloc c)

def dats (_ : Fin 1) (c : Dev nD) : Dat τ (Elt F) ℕ ℕ UU ℕ cfg0 c where
  A w := m ((cfg0.win w).arr.view.loc (c : Thread nD τ))
  after w _ := match w with
    | ⟨0, _⟩ => (ins m).x c
    | ⟨1, _⟩ => (ins m).w1 0 c
    | ⟨2, _⟩ => (ins m).w2 0 c
    | ⟨3, _⟩ => (ins m).w1 1 c
    | ⟨4, _⟩ => (ins m).w2 1 c
    | ⟨5, _⟩ => (ins m).w1 2 c
    | ⟨6, _⟩ => (ins m).w2 2 c
    | ⟨7, _⟩ => res m c
  Φ t := match t with
    | ⟨0, _⟩ => Φ₀ m c
    | ⟨_ + 1, _⟩ => Φ₁ c
  q _ := fullShare
  owed t := match t with
    | ⟨0, _⟩ => owed (allD c)
    | ⟨_ + 1, _⟩ => 0

theorem before_0 (c : Dev nD) (d) : (dats m 0 c).before (0 : Fin 8) t0_0 d = (ins m).x c := by
  unfold Dat.before; rw [if_pos (fetch0_0 t0_0)]
  exact (show (dats m 0 c).fetched (0 : Fin 8) t0_0 d = (win0_0.blk t0_0).view.read (Elt F) (m ((c : Thread nD τ).loc main_arg0)) from rfl).trans
    (Memref.read_access_unit_zero (Elt F) main_arg0 (funext fun a => Nat.zero_mul _) _ _)
theorem before_1 (c : Dev nD) (d) : (dats m 0 c).before (1 : Fin 8) t0_0 d = (ins m).w1 0 c := by
  unfold Dat.before; rw [if_pos (fetch0_1 t0_0)]
  exact (show (dats m 0 c).fetched (1 : Fin 8) t0_0 d = (win0_1.blk t0_0).view.read (Elt F) (m ((c : Thread nD τ).loc main_arg1)) from rfl).trans
    (Memref.read_access_unit_zero (Elt F) main_arg1 (funext fun a => Nat.zero_mul _) _ _)
theorem before_2 (c : Dev nD) (d) : (dats m 0 c).before (2 : Fin 8) t0_0 d = (ins m).w2 0 c := by
  unfold Dat.before; rw [if_pos (fetch0_2 t0_0)]
  exact (show (dats m 0 c).fetched (2 : Fin 8) t0_0 d = (win0_2.blk t0_0).view.read (Elt F) (m ((c : Thread nD τ).loc main_arg2)) from rfl).trans
    (Memref.read_access_unit_zero (Elt F) main_arg2 (funext fun a => Nat.zero_mul _) _ _)
theorem before_3 (c : Dev nD) (d) : (dats m 0 c).before (3 : Fin 8) t0_0 d = (ins m).w1 1 c := by
  unfold Dat.before; rw [if_pos (fetch0_3 t0_0)]
  exact (show (dats m 0 c).fetched (3 : Fin 8) t0_0 d = (win0_3.blk t0_0).view.read (Elt F) (m ((c : Thread nD τ).loc main_arg3)) from rfl).trans
    (Memref.read_access_unit_zero (Elt F) main_arg3 (funext fun a => Nat.zero_mul _) _ _)
theorem before_4 (c : Dev nD) (d) : (dats m 0 c).before (4 : Fin 8) t0_0 d = (ins m).w2 1 c := by
  unfold Dat.before; rw [if_pos (fetch0_4 t0_0)]
  exact (show (dats m 0 c).fetched (4 : Fin 8) t0_0 d = (win0_4.blk t0_0).view.read (Elt F) (m ((c : Thread nD τ).loc main_arg4)) from rfl).trans
    (Memref.read_access_unit_zero (Elt F) main_arg4 (funext fun a => Nat.zero_mul _) _ _)
theorem before_5 (c : Dev nD) (d) : (dats m 0 c).before (5 : Fin 8) t0_0 d = (ins m).w1 2 c := by
  unfold Dat.before; rw [if_pos (fetch0_5 t0_0)]
  exact (show (dats m 0 c).fetched (5 : Fin 8) t0_0 d = (win0_5.blk t0_0).view.read (Elt F) (m ((c : Thread nD τ).loc main_arg5)) from rfl).trans
    (Memref.read_access_unit_zero (Elt F) main_arg5 (funext fun a => Nat.zero_mul _) _ _)
theorem before_6 (c : Dev nD) (d) : (dats m 0 c).before (6 : Fin 8) t0_0 d = (ins m).w2 2 c := by
  unfold Dat.before; rw [if_pos (fetch0_6 t0_0)]
  exact (show (dats m 0 c).fetched (6 : Fin 8) t0_0 d = (win0_6.blk t0_0).view.read (Elt F) (m ((c : Thread nD τ).loc main_arg6)) from rfl).trans
    (Memref.read_access_unit_zero (Elt F) main_arg6 (funext fun a => Nat.zero_mul _) _ _)

/-- Device `c`'s windows before the body and after. -/
def winsPre (c : Dev nD) : SP F :=
  iprop(wins (ins m) c (Memref.whole cc0_stg0_0) (Memref.whole cc0_stg1_0) (Memref.whole cc0_stg2_0) (Memref.whole cc0_stg3_0) (Memref.whole cc0_stg4_0)
    (Memref.whole cc0_stg5_0) (Memref.whole cc0_stg6_0) (fun _ => fullShare) ∗ ∃ Y, owns (c : Thread nD τ) outM fullShare Y)
def winsPost (c : Dev nD) : SP F :=
  iprop(wins (ins m) c (Memref.whole cc0_stg0_0) (Memref.whole cc0_stg1_0) (Memref.whole cc0_stg2_0) (Memref.whole cc0_stg3_0) (Memref.whole cc0_stg4_0)
    (Memref.whole cc0_stg5_0) (Memref.whole cc0_stg6_0) (fun _ => fullShare) ∗ owns (c : Thread nD τ) outM fullShare (res m c))

/-- The body from the launch's side to the end's. -/
theorem sound (c : Dev nD) :
    iprop(Φ₀ m c ∗ owesE c (allD c) ∗ winsPre m c)
      ⊢ WP c (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) (Memref.whole cc0_stg7_0) (Memref.isWhole_whole _) xgM (Memref.isWhole_whole _) rsM (Memref.isWhole_whole _)
        pbM (Memref.isWhole_whole _) xbM (Memref.isWhole_whole _) cc0_scratch4 cc0_scratch5 cc0_scratch6 cc0_scratch7)
        (fun _ => iprop(Φ₁ c ∗ owesE c [] ∗ winsPost m c)) := by
  rw [body_eq]
  refine BIBase.Entails.trans ?_ (wp_fupd _ _ _ _ _)
  unfold Φ₀ opening winsPre
  iintro ⟨⟨⟨%K, #Hc, Hl, Hcr⟩, Hs⟩, HO, Hw, ⟨%Y, Hy⟩⟩
  ihave Hpre := (pre_intro (F := F) c) $$ [Hl Hcr Hs HO]
  · isplitl [Hl]; · iexact Hl
    isplitl [Hcr]; · iexact Hcr
    isplitl [Hs] <;> iassumption
  icases Hpre with ⟨Hpre, Ha, Hr, Hp⟩
  ihave Hrows := (rows_split c outM Y) $$ Hy
  iapply (prog_wp (Memref.isWhole_whole _) (Memref.isWhole_whole _) (Memref.isWhole_whole _) (Memref.isWhole_whole _) (ins m) K c
    (Memref.whole cc0_stg0_0) (Memref.whole cc0_stg1_0) (Memref.whole cc0_stg2_0) (Memref.whole cc0_stg3_0) (Memref.whole cc0_stg4_0)
    (Memref.whole cc0_stg5_0) (Memref.whole cc0_stg6_0) (fun _ => fullShare) outM (fun s => fun j => Y ((rRow s).emb j)) _) $$ [Hw Hrows Hpre]
  · isplitr; · iexact Hc
    isplitl [Hw]; · iexact Hw
    isplitl [Hrows]; · unfold outRows; iexact Hrows
    iexact Hpre
  iintro ⟨Hw, Hrows, Hpost⟩
  imod (post_elim (ins m) K c) $$ [Hpost Ha Hr Hp] with ⟨HO, Hs, Hz⟩
  · isplitr; · iexact Hc
    isplitl [Hpost]; · iexact Hpost
    isplitl [Ha]; · iexact Ha
    isplitl [Hr] <;> iassumption
  imodintro
  unfold Φ₁ winsPost outRows res
  ihave Hout := (rows_join c outM ((ins m).out c)) $$ Hrows
  isplitl [Hs Hz]
  · isplitl [Hs]; · iexact Hs
    iexact Hz
  isplitl [HO]; · iexact HO
  isplitl [Hw] <;> iassumption

/-! ## The library's side conditions -/

def pre' (c : Dev nD) : SP F :=
  iprop(Φ₀ m c ∗ (dats m 0 c).owesAt 0 t0_0.castSucc
    ∗ (∃ d, owns (c : Thread nD τ) (Memref.whole cc0_stg0_0) fullShare ((dats m 0 c).before (0 : Fin 8) t0_0 d))
    ∗ (∃ d, owns (c : Thread nD τ) (Memref.whole cc0_stg1_0) fullShare ((dats m 0 c).before (1 : Fin 8) t0_0 d))
    ∗ (∃ d, owns (c : Thread nD τ) (Memref.whole cc0_stg2_0) fullShare ((dats m 0 c).before (2 : Fin 8) t0_0 d))
    ∗ (∃ d, owns (c : Thread nD τ) (Memref.whole cc0_stg3_0) fullShare ((dats m 0 c).before (3 : Fin 8) t0_0 d))
    ∗ (∃ d, owns (c : Thread nD τ) (Memref.whole cc0_stg4_0) fullShare ((dats m 0 c).before (4 : Fin 8) t0_0 d))
    ∗ (∃ d, owns (c : Thread nD τ) (Memref.whole cc0_stg5_0) fullShare ((dats m 0 c).before (5 : Fin 8) t0_0 d))
    ∗ (∃ d, owns (c : Thread nD τ) (Memref.whole cc0_stg6_0) fullShare ((dats m 0 c).before (6 : Fin 8) t0_0 d))
    ∗ (∃ d, owns (c : Thread nD τ) (Memref.whole cc0_stg7_0) fullShare ((dats m 0 c).before (7 : Fin 8) t0_0 d)))

def post' (c : Dev nD) : SP F :=
  iprop(Φ₁ (F := F) c ∗ (dats m 0 c).owesAt 0 t0_0.succ
    ∗ owns (c : Thread nD τ) (Memref.whole cc0_stg0_0) fullShare ((ins m).x c)
    ∗ owns (c : Thread nD τ) (Memref.whole cc0_stg1_0) fullShare ((ins m).w1 0 c)
    ∗ owns (c : Thread nD τ) (Memref.whole cc0_stg2_0) fullShare ((ins m).w2 0 c)
    ∗ owns (c : Thread nD τ) (Memref.whole cc0_stg3_0) fullShare ((ins m).w1 1 c)
    ∗ owns (c : Thread nD τ) (Memref.whole cc0_stg4_0) fullShare ((ins m).w2 1 c)
    ∗ owns (c : Thread nD τ) (Memref.whole cc0_stg5_0) fullShare ((ins m).w1 2 c)
    ∗ owns (c : Thread nD τ) (Memref.whole cc0_stg6_0) fullShare ((ins m).w2 2 c)
    ∗ owns (c : Thread nD τ) (Memref.whole cc0_stg7_0) fullShare (res m c))

theorem pre'_elim (c : Dev nD) : pre' m c ⊢ iprop(Φ₀ m c ∗ owesE c (allD c) ∗ winsPre m c) := by
  unfold pre' winsPre wins owesE Dat.owesAt Pipeline.owesWithin
  rw [show (dats m 0 c).owed t0_0.castSucc = owed (allD c) from rfl]
  simp only [before_0, before_1, before_2, before_3, before_4, before_5, before_6]
  iintro ⟨HΦ, ⟨%W, -, HO⟩, ⟨%_, H0⟩, ⟨%_, H1⟩, ⟨%_, H2⟩, ⟨%_, H3⟩, ⟨%_, H4⟩, ⟨%_, H5⟩, ⟨%_, H6⟩, ⟨%d, H7⟩⟩
  isplitl [HΦ]; · iexact HΦ
  isplitl [HO]; · iexists W; iexact HO
  isplitr [H7]
  · isplitl [H0]; · iexact H0
    isplitl [H1]; · iexact H1
    isplitl [H2]; · iexact H2
    isplitl [H3]; · iexact H3
    isplitl [H4]; · iexact H4
    isplitl [H5] <;> iassumption
  iexists _
  iexact H7

theorem post'_intro (c : Dev nD) : iprop(Φ₁ (F := F) c ∗ owesE c [] ∗ winsPost m c) ⊢ post' m c := by
  unfold post' winsPost wins owesE Dat.owesAt Pipeline.owesWithin
  rw [show (dats m 0 c).owed t0_0.succ = 0 from rfl, owed_nil]
  iintro ⟨HΦ, ⟨%W, HO⟩, ⟨H0, H1, H2, H3, H4, H5, H6⟩, H7⟩
  isplitl [HΦ]; · iexact HΦ
  isplitl [HO]
  · iexists W
    isplitr; · (ipureintro; exact fun _ _ => Or.inl trivial)
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

set_option maxRecDepth 100000 in
theorem body_obligation (c : Dev nD) : BodyObligation (dats m 0 c) (defs₀ (F := F)) Variants.none 0 Set.univ := fun t => by
  rw [fin_N0 t]
  rw [bigSep_W0, bigSep_W0]
  show pre' m c ⊢ WP c (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) (Memref.whole cc0_stg7_0) (Memref.isWhole_whole _) xgM (Memref.isWhole_whole _) rsM (Memref.isWhole_whole _)
        pbM (Memref.isWhole_whole _) xbM (Memref.isWhole_whole _) cc0_scratch4 cc0_scratch5 cc0_scratch6 cc0_scratch7) (fun _ => post' m c)
  exact (pre'_elim m c).trans ((sound m c).trans (wp_mono _ _ _ fun _ => post'_intro m c))

theorem ownSemFacts : Pipeline.OwnSemFacts cfg0.spec oloc where
  isScoped := by decide +kernel
  inj := fun a b h => Sum.inr_injective (loc_inj (a₁ := .inr a) (a₂ := .inr b) h)
  disj := by decide +kernel

theorem share_eq (c : Dev nD) (w : Fin cfg0.W) : (dats m 0 c).share w = fullShare := by unfold Dat.share; split <;> rfl

theorem phi0_intro (c : Dev nD) :
    iprop(opening (ins m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 oloc c ∗ Pipeline.scopedRest cfg0.spec c) := by
  rw [show (dats m 0 c).Φ (Fin.last cfg0.N) = Φ₁ c from rfl, scr_eq]
  unfold Φ₁
  iintro ⟨Hr, Hu, Ho⟩
  isplitl [Hu]; · iexact Hu
  isplitl [Ho] <;> iassumption

/-- No semaphore of the protocol is a window's. -/
theorem kindOf_stage : ∀ (w : Fin 8) (s : Fin (spec0 w).nbuf), kindOf (.dma ((spec0 w).sem s)) = none := by
  have h : ∀ (w : Fin 8) (s : Fin (spec0 w).nbuf) (k : CK), loc k ≠ .dma ((spec0 w).sem s) := by decide +kernel
  intro w s
  cases hk : kindOf (.dma ((spec0 w).sem s)) with
  | none => rfl
  | some k => exact absurd (kindOf_some hk) (h w s k)

theorem above_all (c : Dev nD) : Above 0 (allD c) := fun x hx => by
  refine ⟨lvF_pos _ _, ?_⟩
  rcases List.mem_append.mp hx with hx | hx
  · obtain ⟨k, rfl⟩ := List.mem_ofFn.mp hx; exact (by decide : 0 < 4)
  · rcases List.mem_append.mp hx with hx | hx
    · exact (above_ag c 0 0 (by omega) (by omega) x hx).2
    · exact (above_tail c 0 0 (by omega) x hx).2

theorem waits (c : Dev nD) : (levAts L lv : SP F) ⊢ Pipeline.cellsWaits cfgs (dats m) 0 0 c :=
  Pipeline.cellsWaits_intro cfgs (dats m) 0 0 c fun w s t => by
    have hl : lv ((c : Thread nD τ), SemLoc.dma ((spec0 w).sem s)) 0 ≤ 0 := by
      unfold lv; rw [kindOf_stage w s]; exact Nat.le_refl 0
    rcases t with ⟨_ | _, ht⟩
    · exact mayWait c _ 0 (by decide) 0 hl (allD c) (above_all c)
    · exact mayWait c _ 0 (by decide) 0 hl [] (Above.nil 0)

/-! ## The run -/

/-- Every window's array holds what the run leaves in it. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- From any memory with every semaphore at zero the kernel on the mesh ends: each array as computed, every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed (allD d)) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      imod (fund_cells (ins m)) $$ HX with HG
      imodintro
      isplitl [HP] <;> iassumption)
    (hglob := glob (ins m))
    (hA := fun _ _ => rfl) (hpf := fun _ k => k.elim0)
    (X := opening (ins m)) (Y := fun c => unscopedSems0 c) (Z := fun _ => iprop(emp))
    (hX := fun c => opening_intro (ins m) c _ _) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What the run leaves in the result's array. -/
theorem arr_out (c : Dev nD) : (dats m 0 c).arrAt (7 : Fin 8) cfg0.N = res m c := by
  show (dats m 0 c).arrAt (7 : Fin 8) (0 + 1) = res m c
  unfold Dat.arrAt
  rw [dif_pos (by decide), if_pos (flush0_7 _)]
  exact Memref.write_access_unit_zero_univ (Elt F) main_v1 (funext fun a => Nat.zero_mul _) _ _ _

/-- The kernel's run: the arguments as they were, the result as computed, every semaphore at zero. -/
theorem run : θ_run defs (onTc (τ := τ) (main (F := F))) ⟨m, fun _ => 0, ρ⟩ (fun r =>
    (∀ c : Dev nD, r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨(h.1 c (7 : Fin 8)).trans (arr_out m c),
    (h.1 c (0 : Fin 8)).trans ((dats m 0 c).arrAt_in (0 : Fin 8) rfl _),
    (h.1 c (1 : Fin 8)).trans ((dats m 0 c).arrAt_in (1 : Fin 8) rfl _),
    (h.1 c (2 : Fin 8)).trans ((dats m 0 c).arrAt_in (2 : Fin 8) rfl _),
    (h.1 c (3 : Fin 8)).trans ((dats m 0 c).arrAt_in (3 : Fin 8) rfl _),
    (h.1 c (4 : Fin 8)).trans ((dats m 0 c).arrAt_in (4 : Fin 8) rfl _),
    (h.1 c (5 : Fin 8)).trans ((dats m 0 c).arrAt_in (5 : Fin 8) rfl _),
    (h.1 c (6 : Fin 8)).trans ((dats m 0 c).arrAt_in (6 : Fin 8) rfl _)⟩, h.2⟩) (run_main m ρ)

end Cert.Proof.KI

end
-- ==== Proof.Value.lean ====
/- What the devices compute, over the extended reals. There every change of format is the identity, so a device's
   partial product of a block of rows is the plain product, and the sum of the sixteen partial products of one block of
   rows is that block of the reference's layer. Three layers give: every device's result is the reference's. -/
module

public import proofs.«01_k».proof.Proof.Ideal.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.Proof.Value

open Idealize.ShloMosaic Idealize.ShloMosaic.TcCoe Idealize.ShloMosaic.ValueIdx Idealize.SL.Sem
open Cert.KernelIdeal Cert.KernelIdeal.Gen Cert.Proof.KI
open scoped BigOperators

/-! ## Sums -/

/-- A sum over the 4096 hidden units, taken device by device. -/
theorem sum_hidden {M : Type} [AddCommMonoid M] (g : Fin 4096 → M) :
    ∑ H : Fin 4096, g H = ∑ s : Fin 16, ∑ h : Fin 256, g ⟨s.val * 256 + h.val, by omega⟩ := by
  rw [← Fintype.sum_prod_type', ← Equiv.sum_comp (finProdFinEquiv (m := 16) (n := 256)) g]
  refine Finset.sum_congr rfl fun p _ => congrArg g (Fin.ext ?_)
  show p.2.val + 256 * p.1.val = p.1.val * 256 + p.2.val
  omega

/-- The steps of the reduction over a list of devices, read at one element. -/
theorem foldl_addIf (c : Dev nD) (P : Dev nD → Vec Ideal S128x128 .bf16) (i : S128x128.Idx) (l : List (Dev nD)) (a : FVec Ideal S128x128 .f32) :
    (l.foldl (fun acc s => Ins.addIf (F := Ideal) c acc s (P s)) a) i = a i + (l.map fun s => if s = c then (0 : EReal) else P s i).sum := by
  induction l generalizing a with
  | nil => exact (add_zero (a i)).symm
  | cons s l ih =>
    rw [List.foldl_cons, ih, List.map_cons, List.sum_cons, ← add_assoc]
    refine congrArg (· + _) ?_
    unfold Ins.addIf
    split
    · exact (add_zero _).symm
    · rfl

/-- The reduction on device `c`, whose own term is its own block: the sum of all the devices' blocks. -/
theorem redOf_apply (c : Dev nD) (own : FVec Ideal S128x128 .f32) (P : Dev nD → Vec Ideal S128x128 .bf16) (i : S128x128.Idx) (h : own i = P c i) :
    Ins.redOf (F := Ideal) c own P i = ∑ s : Fin 16, (P s i : EReal) := by
  have e : ∀ s : Fin 16, (P s i : EReal) = (if s = c then P c i else 0) + (if s = c then 0 else P s i) := fun s => by
    by_cases hs : s = c
    · subst hs; simp
    · simp [hs]
  unfold Ins.redOf
  rw [foldl_addIf, Finset.sum_congr rfl fun s _ => e s, Finset.sum_add_distrib, Finset.sum_ite_eq' Finset.univ c, if_pos (Finset.mem_univ c), h]
  exact congrArg (P c i + ·) (Fin.sum_univ_def _).symm

/-! ## The products -/

/-- A device's partial product at an element: over its 256 hidden units. -/
theorem ffn_apply (win : FVec Ideal S128x256 .bf16) (wout : FVec Ideal S256x128 .bf16) (x : Vec Ideal S128x128 .bf16) (r j : Fin 128) :
    ffn (F := Ideal) win wout x (ix2 r j) = ∑ h : Fin 256, max (∑ k : Fin 128, x (ix2 r k) * win (ix2 k h)) 0 * wout (ix2 h j) := by
  unfold ffn
  refine (Ideal.matmul_plain_apply none _ wout _ r j).trans ?_
  refine (congrArg (· + _) Ideal.ofBits_zero_f32).trans ((zero_add _).trans (Finset.sum_congr rfl fun h _ => congrArg (· * wout (ix2 h j)) ?_))
  refine congrArg₂ max ?_ Ideal.ofBits_zero_f32
  refine (Ideal.matmul_plain_apply none x win _ r h).trans ?_
  exact (congrArg (· + _) Ideal.ofBits_zero_f32).trans (zero_add _)

/-- One layer of the reference, as printed. -/
def layer (y : FVec Ideal S2048x128 .f32) (a : FVec Ideal ReferenceIdeal.S128x4096 .f32) (b : FVec Ideal ReferenceIdeal.S4096x128 .f32) : FVec Ideal S2048x128 .f32 :=
  Host.dotGeneral ReferenceIdeal.dot_S2048x4096_S4096x128_S2048x128_1_0_0_1_n_n none
    (maximumf (Host.dotGeneral ReferenceIdeal.dot_S2048x128_S128x4096_S2048x4096_1_0_0_1_n_n none y a)
      (broadcastInDim ReferenceIdeal.S2048x4096 ![] ReferenceIdeal.Facts₀.bcast_S_S2048x4096 (constant ReferenceIdeal.S_ .f32 0x00000000#32))) b

/-- One layer of the reference at an element: over all 4096 hidden units. -/
theorem layer_apply (y : FVec Ideal S2048x128 .f32) (a : FVec Ideal ReferenceIdeal.S128x4096 .f32) (b : FVec Ideal ReferenceIdeal.S4096x128 .f32)
    (R : Fin 2048) (j : Fin 128) :
    layer y a b (ix2 R j) = ∑ H : Fin 4096, max (∑ k : Fin 128, y (ix2 R k) * a (ix2 k H)) 0 * b (ix2 H j) := by
  unfold layer
  refine (StackMember.dotGeneral_plain_apply none _ b R j).trans (Finset.sum_congr rfl fun H _ => congrArg (· * b (ix2 H j)) ?_)
  exact congrArg₂ max (StackMember.dotGeneral_plain_apply none y a R H) Ideal.ofBits_zero_f32

/-! ## Blocks -/

/-- Block `c` of the rows of an array of 2048 rows. -/
abbrev rows (c : Dev nD) (y : FVec Ideal S2048x128 .f32) : FVec Ideal S128x128 .f32 := Layout.block ⟨2, ![128, 128]⟩ ⟨2, ![2048, 128]⟩ 0 16 c y
/-- Block `c` of the columns of a first weight. -/
abbrev colsIn (c : Dev nD) (a : FVec Ideal ReferenceIdeal.S128x4096 .f32) : FVec Ideal S128x256 .f32 :=
  Layout.block ⟨2, ![128, 256]⟩ ⟨2, ![128, 4096]⟩ 1 16 c a
/-- Block `c` of the rows of a second weight. -/
abbrev rowsOut (c : Dev nD) (b : FVec Ideal ReferenceIdeal.S4096x128 .f32) : FVec Ideal S256x128 .f32 :=
  Layout.block ⟨2, ![256, 128]⟩ ⟨2, ![4096, 128]⟩ 0 16 c b

theorem rows_apply (c : Dev nD) (y : FVec Ideal S2048x128 .f32) (r j : Fin 128) :
    rows c y (ix2 r j) = y (ix2 ⟨c.val * 128 + r.val, by have : c.val < 16 := c.isLt; omega⟩ j) :=
  congrArg y (funext fun d => by match d with | ⟨0, _⟩ => rfl | ⟨1, _⟩ => rfl)
theorem colsIn_apply (c : Dev nD) (a : FVec Ideal ReferenceIdeal.S128x4096 .f32) (k : Fin 128) (h : Fin 256) :
    colsIn c a (ix2 k h) = a (ix2 k ⟨c.val * 256 + h.val, by have : c.val < 16 := c.isLt; omega⟩) :=
  congrArg a (funext fun d => by match d with | ⟨0, _⟩ => rfl | ⟨1, _⟩ => rfl)
theorem rowsOut_apply (c : Dev nD) (b : FVec Ideal ReferenceIdeal.S4096x128 .f32) (h : Fin 256) (j : Fin 128) :
    rowsOut c b (ix2 h j) = b (ix2 ⟨c.val * 256 + h.val, by have : c.val < 16 := c.isLt; omega⟩ j) :=
  congrArg b (funext fun d => by match d with | ⟨0, _⟩ => rfl | ⟨1, _⟩ => rfl)

/-- The devices' partial products of block `c` of the rows sum to block `c` of the layer. -/
theorem sum_parts (c : Dev nD) (y : FVec Ideal S2048x128 .f32) (a : FVec Ideal ReferenceIdeal.S128x4096 .f32) (b : FVec Ideal ReferenceIdeal.S4096x128 .f32)
    (r j : Fin 128) :
    ∑ s : Fin 16, ffn (F := Ideal) (colsIn s a) (rowsOut s b) (rows c y) (ix2 r j) = rows c (layer y a b) (ix2 r j) := by
  rw [rows_apply, layer_apply, sum_hidden]
  refine Finset.sum_congr rfl fun s _ => (ffn_apply _ _ _ r j).trans (Finset.sum_congr rfl fun h _ => ?_)
  refine congrArg₂ (· * ·) (congrArg (max · 0) (Finset.sum_congr rfl fun k _ => ?_)) (rowsOut_apply s b h j)
  exact congrArg₂ (· * ·) (rows_apply c y r k) (colsIn_apply s a k h)

/-! ## Changes of format -/

theorem castX_eq (v : Vec Ideal S128x128 .f32) : castX (F := Ideal) v = v := by
  unfold castX; rw [shapeCast_self, shapeCast_self]; rfl
theorem castIn_eq (v : Vec Ideal S128x256 .f32) : castIn (F := Ideal) v = v := by
  unfold castIn; rw [shapeCast_self]; rfl
theorem castOut_eq (v : Vec Ideal S256x128 .f32) : castOut (F := Ideal) v = v := by
  unfold castOut; rw [shapeCast_self]; rfl
theorem roundB_eq (v : FVec Ideal S128x128 .f32) : roundB (F := Ideal) v = v := by
  unfold roundB; rw [shapeCast_self]; rfl

/-! ## The layers -/

/-- If before layer `l` device `c` holds block `c` of the rows `y`, its sum in layer `l` is block `c` of the layer of `y`. -/
theorem red_eq (I : Ins Ideal) (l : ℕ) (c : Dev nD) (y : FVec Ideal S2048x128 .f32) (a : FVec Ideal ReferenceIdeal.S128x4096 .f32)
    (b : FVec Ideal ReferenceIdeal.S4096x128 .f32) (hX : I.X l c = rows c y) (ha : ∀ s, I.w1 l s = colsIn s a) (hb : ∀ s, I.w2 l s = rowsOut s b) :
    I.red l c = rows c (layer y a b) := by
  funext i
  obtain ⟨r, j, rfl⟩ : ∃ r j : Fin 128, i = ix2 r j := ⟨i 0, i 1, eq_ix2 i⟩
  have hp : ∀ s, roundB (I.part l s (I.X l c)) = ffn (F := Ideal) (colsIn s a) (rowsOut s b) (rows c y) := fun s => by
    rw [roundB_eq, hX]; unfold Ins.part; rw [ha, hb, castIn_eq, castOut_eq]
  unfold Ins.red
  rw [redOf_apply c _ _ (ix2 r j) (congrFun (roundB_eq _).symm _), ← sum_parts]
  exact Finset.sum_congr rfl fun s _ => congrFun (hp s) _

/-- The reference's three layers. -/
def net (y : FVec Ideal S2048x128 .f32) (a : ℕ → FVec Ideal ReferenceIdeal.S128x4096 .f32) (b : ℕ → FVec Ideal ReferenceIdeal.S4096x128 .f32) :
    ℕ → FVec Ideal S2048x128 .f32
  | 0 => y
  | l + 1 => layer (net y a b l) (a l) (b l)

/-- Device `c`'s rows before each layer are block `c` of the reference's. -/
theorem X_eq (I : Ins Ideal) (y : FVec Ideal S2048x128 .f32) (a : ℕ → FVec Ideal ReferenceIdeal.S128x4096 .f32)
    (b : ℕ → FVec Ideal ReferenceIdeal.S4096x128 .f32) (hx : ∀ c, I.x c = rows c y) (ha : ∀ l s, I.w1 l s = colsIn s (a l))
    (hb : ∀ l s, I.w2 l s = rowsOut s (b l)) : ∀ (l : ℕ) (c : Dev nD), I.X l c = rows c (net y a b l)
  | 0, c => (castX_eq _).trans (hx c)
  | l + 1, c => (I.X_succ l c).trans ((roundB_eq _).trans (red_eq I l c _ _ _ (X_eq I y a b hx ha hb l c) (ha l) (hb l)))

/-- Every device's result is the reference's. -/
theorem out_eq (I : Ins Ideal) (y : FVec Ideal S2048x128 .f32) (a : ℕ → FVec Ideal ReferenceIdeal.S128x4096 .f32)
    (b : ℕ → FVec Ideal ReferenceIdeal.S4096x128 .f32) (hx : ∀ c, I.x c = rows c y) (ha : ∀ l s, I.w1 l s = colsIn s (a l))
    (hb : ∀ l s, I.w2 l s = rowsOut s (b l)) (c : Dev nD) : ofRows (F := Ideal) (e := .f32) (I.out c) = net y a b 3 := by
  have ho : ∀ s, I.out c s = rows s (net y a b 3) := fun s => by
    unfold Ins.out
    split
    · next h => subst h; exact red_eq I 2 s _ _ _ (X_eq I y a b hx ha hb 2 s) (ha 2) (hb 2)
    · exact X_eq I y a b hx ha hb 3 s
  funext t
  obtain ⟨s, -, hs⟩ := Finset.mem_biUnion.mp (rRow_cover.symm ▸ Finset.mem_univ t)
  rw [← Rect.map_emb_univ, Finset.mem_map] at hs
  obtain ⟨i, -, rfl⟩ := hs
  refine (congrFun (ofRows_row (F := Ideal) (e := .f32) (I.out c) s) i).trans ((congrFun (ho s) i).trans (congrArg (net y a b 3) (funext fun d => Fin.ext ?_)))
  match d with
  | ⟨0, _⟩ => show s.val * 128 + (i 0).val = 128 * s.val + 1 * (i 0).val; omega
  | ⟨1, _⟩ => show (i 1).val = 0 + 1 * (i 1).val; omega

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ideal.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, leaves its arguments as they were and every semaphore at zero. -/
theorem frame_kernel : Cert.quiescent_Kernel := fun m g _ =>
  (θ_run Cert.Kernel.defs _ _).mono (fun _ h => ⟨fun c => (h.1 c).2, h.2⟩) (K.run (F := Bits) m g)

/-- The same of the kernel over the extended reals. -/
theorem frame_ideal : Cert.quiescent_KernelIdeal := fun m g _ =>
  (θ_run Cert.KernelIdeal.defs _ _).mono (fun _ h => ⟨fun c => (h.1 c).2, h.2⟩) (KI.run (F := Ideal) m g)

/-- The same of the reference. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run (F := Ideal) m g)

/-- The reference's layers' first weights, as its arrays hold them. -/
def weightsIn (m' : (ℓ : Loc Cert.ReferenceIdeal.nD Cert.ReferenceIdeal.τ Cert.ReferenceIdeal.sig) → Buf (Elt Ideal) ℓ) : ℕ → FVec Ideal Cert.ReferenceIdeal.S128x4096 .f32
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg3)
  | _ => m' (((0 : Dev Cert.ReferenceIdeal.nD).tc : Thread Cert.ReferenceIdeal.nD Cert.ReferenceIdeal.τ).loc Cert.ReferenceIdeal.main_arg5)

/-- Their second weights. -/
def weightsOut (m' : (ℓ : Loc Cert.ReferenceIdeal.nD Cert.ReferenceIdeal.τ Cert.ReferenceIdeal.sig) → Buf (Elt Ideal) ℓ) : ℕ → FVec Ideal Cert.ReferenceIdeal.S4096x128 .f32
  | 0 => m' (((0 : Dev Cert.ReferenceIdeal.nD).tc : Thread Cert.ReferenceIdeal.nD Cert.ReferenceIdeal.τ).loc Cert.ReferenceIdeal.main_arg2)
  | 1 => m' (((0 : Dev Cert.ReferenceIdeal.nD).tc : Thread Cert.ReferenceIdeal.nD Cert.ReferenceIdeal.τ).loc Cert.ReferenceIdeal.main_arg4)
  | _ => m' (((0 : Dev Cert.ReferenceIdeal.nD).tc : Thread Cert.ReferenceIdeal.nD Cert.ReferenceIdeal.τ).loc Cert.ReferenceIdeal.main_arg6)

/-- From memories that agree, every device's result is the reference's three layers of the reference's arguments, and the
    reference's result is that too. -/
theorem value : Cert.algebraic_KernelIdeal_ReferenceIdeal := fun m g m' g' _ h =>
  ⟨Value.net (m' (((0 : Dev Cert.ReferenceIdeal.nD).tc : Thread Cert.ReferenceIdeal.nD Cert.ReferenceIdeal.τ).loc Cert.ReferenceIdeal.main_arg0))
      (weightsIn m') (weightsOut m') 3,
    (θ_run Cert.KernelIdeal.defs _ _).mono
      (fun _ hr c => ⟨(hr.1 c).1.trans (Value.out_eq (KI.ins m) _ (weightsIn m') (weightsOut m') (fun s => (h s).1)
          (fun l s => match l with | 0 => (h s).2.1 | 1 => (h s).2.2.2.1 | _ + 2 => (h s).2.2.2.2.2.1)
          (fun l s => match l with | 0 => (h s).2.2.1 | 1 => (h s).2.2.2.2.1 | _ + 2 => (h s).2.2.2.2.2.2) c), (hr.1 c).2⟩)
      (KI.run (F := Ideal) m g),
    (θ_run Cert.ReferenceIdeal.defs _ _).mono (fun _ hr => hr 0) (Cert.ReferenceIdeal.Value.run (F := Ideal) m' g')⟩

/-- The claims: the three programs run and leave their arguments and semaphores as they were; the kernel over the
    extended reals is the kernel's own text; its results are the reference's. -/
theorem claim : Cert.Claim := ⟨Cert.Kernel.Gen.facts, Cert.KernelIdeal.Gen.facts, Cert.ReferenceIdeal.Gen.facts,
  frame_kernel, frame_ideal, frame_reference, trivial, value⟩

end Cert.Proof

end
